-- ==== Defs.lean ====
def Pre_Kernel (m : (ℓ : Loc Cert.Kernel.nD Cert.Kernel.τ Cert.Kernel.sig) → Buf (Elt Bits) ℓ) : Prop :=
  True

def Pre_Kernel_no_tie_Kernel [hPre_no_tie_Kernel : Cert.Pre_no_tie_Kernel.Facts] (m : (ℓ : Loc Cert.Kernel.nD Cert.Kernel.τ Cert.Kernel.sig) → Buf (Elt Bits) ℓ) : Prop :=
  ∀ c : Dev Cert.Kernel.nD,
    (Cert.Pre_no_tie_Kernel.fn (F := Bits) (m ((c.tc : Thread Cert.Kernel.nD Cert.Kernel.τ).loc Cert.Kernel.main_arg0))) = (fun _ => 1#1)

def Pre_KernelIdeal [hPre_no_tie_Kernel : Cert.Pre_no_tie_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_no_tie_Kernel.fn (F := Ideal) (m ((c.tc : Thread Cert.KernelIdeal.nD Cert.KernelIdeal.τ).loc Cert.KernelIdeal.main_arg0))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_no_tie_ReferenceIdeal [hPre_no_tie_ReferenceIdeal : Cert.Pre_no_tie_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_no_tie_ReferenceIdeal.fn (F := Ideal) (m ((c.tc : Thread Cert.ReferenceIdeal.nD Cert.ReferenceIdeal.τ).loc Cert.ReferenceIdeal.main_arg0))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_Kernel_pre_no_tie_Kernel [hKernel : Cert.Kernel.Facts] [hPre_no_tie_Kernel : Cert.Pre_no_tie_Kernel.Facts] : Prop :=
  ∀ (m : (ℓ : Loc Cert.Kernel.nD Cert.Kernel.τ Cert.Kernel.sig) → Buf (Elt Bits) ℓ) (g : Dev Cert.Kernel.nD → PrngReg), Pre_Kernel_no_tie_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] [hPre_no_tie_Kernel : Cert.Pre_no_tie_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def quiescent_ReferenceIdeal_pre_no_tie_ReferenceIdeal [hReferenceIdeal : Cert.ReferenceIdeal.Facts] [hPre_no_tie_ReferenceIdeal : Cert.Pre_no_tie_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_no_tie_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_no_tie_Kernel : Cert.Pre_no_tie_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![4096, 1024]⟩ ⟨2, ![16384, 1024]⟩ 0 4 c (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v5) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_no_tie_Kernel : Cert.Pre_no_tie_Kernel.Facts) (hPre_no_tie_ReferenceIdeal : Cert.Pre_no_tie_ReferenceIdeal.Facts),
    quiescent_Kernel (hKernel := hKernel)
    ∧ quiescent_Kernel_pre_no_tie_Kernel (hKernel := hKernel) (hPre_no_tie_Kernel := hPre_no_tie_Kernel)
    ∧ quiescent_KernelIdeal (hKernelIdeal := hKernelIdeal) (hPre_no_tie_Kernel := hPre_no_tie_Kernel)
    ∧ quiescent_ReferenceIdeal (hReferenceIdeal := hReferenceIdeal)
    ∧ quiescent_ReferenceIdeal_pre_no_tie_ReferenceIdeal (hReferenceIdeal := hReferenceIdeal) (hPre_no_tie_ReferenceIdeal := hPre_no_tie_ReferenceIdeal)
    ∧ preserves_Kernel_KernelIdeal
    ∧ algebraic_KernelIdeal_ReferenceIdeal (hKernelIdeal := hKernelIdeal) (hReferenceIdeal := hReferenceIdeal) (hPre_no_tie_Kernel := hPre_no_tie_Kernel)
-- ==== Pre_no_tie_Kernel.lean ====
abbrev S4096x1024 : Shape := ⟨2, ![4096, 1024]⟩
abbrev S8x512x1024 : Shape := ⟨3, ![8, 512, 1024]⟩
abbrev S_ : Shape := ⟨0, ![]⟩
abbrev S8x1024 : Shape := ⟨2, ![8, 1024]⟩
abbrev S8x1x1024 : Shape := ⟨3, ![8, 1, 1024]⟩

class Facts : Prop where
  shapeCasts_S4096x1024_S8x512x1024 : S4096x1024.ShapeCasts S8x512x1024
  reducesTo_S8x512x1024_S8x1024_d1 : S8x512x1024.ReducesTo [1] S8x1024
  h_S_ : 0 < S_.numel
  bcast_S8x1024_S8x1x1024_0_2 : S8x1024.BroadcastsInDim S8x1x1024 (![0, 2] : Fin 2 → Fin S8x1x1024.rank)
  bcast_S8x1x1024_S8x512x1024_0_1_2 : S8x1x1024.BroadcastsInDim S8x512x1024 (![0, 1, 2] : Fin 3 → Fin S8x512x1024.rank)
  natLt_1_32 : 1 < 32
  bcast_S_S8x1x1024 : S_.BroadcastsInDim S8x1x1024 (![] : Fin 0 → Fin S8x1x1024.rank)

variable [Facts]

def fn {F : FTy → Type} [FloatOps F] (main_arg0 : FVec F S4096x1024 .f32) : IVec S8x1x1024 1 :=
  let main_v0 : FVec F S8x512x1024 .f32 := shapeCast S8x512x1024 main_arg0 shapeCasts_S4096x1024_S8x512x1024
  let main_cst : FVec F S_ .f32 := constant S_ .f32 0xFF800000#32
  let main_v1 : FVec F S8x1024 .f32 := (fun x v => Host.reduce FloatOps.maximumf x v reducesTo_S8x512x1024_S8x1024_d1 h_S_) main_v0 main_cst
  let main_v2 : FVec F S8x1x1024 .f32 := broadcastInDim S8x1x1024 ![0, 2] bcast_S8x1024_S8x1x1024_0_2 main_v1
  let main_v3 : FVec F S8x512x1024 .f32 := broadcastInDim S8x512x1024 ![0, 1, 2] bcast_S8x1x1024_S8x512x1024_0_1_2 main_v2
  let main_v4 : IVec S8x512x1024 1 := cmpf .oeq main_v0 main_v3
  let main_v5 : IVec S8x512x1024 32 := (extui 32 · natLt_1_32) main_v4
  let main_c : IVec S_ 32 := constantI S_ 32 0#32
  let main_v6 : IVec S8x1024 32 := (fun x v => Host.reduce IntOp.addi x v reducesTo_S8x512x1024_S8x1024_d1 h_S_) main_v5 main_c
  let main_v7 : IVec S8x1x1024 32 := broadcastInDim S8x1x1024 ![0, 2] bcast_S8x1024_S8x1x1024_0_2 main_v6
  let main_c_0 : IVec S_ 32 := constantI S_ 32 1#32
  let main_v8 : IVec S8x1x1024 32 := broadcastInDim S8x1x1024 ![] bcast_S_S8x1x1024 main_c_0
  let main_v9 : IVec S8x1x1024 1 := cmpi .eq main_v7 main_v8
  main_v9
-- ==== Pre_no_tie_ReferenceIdeal.lean ====
abbrev S16384x1024 : Shape := ⟨2, ![16384, 1024]⟩
abbrev S32x512x1024 : Shape := ⟨3, ![32, 512, 1024]⟩
abbrev S_ : Shape := ⟨0, ![]⟩
abbrev S32x1024 : Shape := ⟨2, ![32, 1024]⟩
abbrev S32x1x1024 : Shape := ⟨3, ![32, 1, 1024]⟩

class Facts : Prop where
  shapeCasts_S16384x1024_S32x512x1024 : S16384x1024.ShapeCasts S32x512x1024
  reducesTo_S32x512x1024_S32x1024_d1 : S32x512x1024.ReducesTo [1] S32x1024
  h_S_ : 0 < S_.numel
  bcast_S32x1024_S32x1x1024_0_2 : S32x1024.BroadcastsInDim S32x1x1024 (![0, 2] : Fin 2 → Fin S32x1x1024.rank)
  bcast_S32x1x1024_S32x512x1024_0_1_2 : S32x1x1024.BroadcastsInDim S32x512x1024 (![0, 1, 2] : Fin 3 → Fin S32x512x1024.rank)
  natLt_1_32 : 1 < 32
  bcast_S_S32x1x1024 : S_.BroadcastsInDim S32x1x1024 (![] : Fin 0 → Fin S32x1x1024.rank)

variable [Facts]

def fn {F : FTy → Type} [FloatOps F] (main_arg0 : FVec F S16384x1024 .f32) : IVec S32x1x1024 1 :=
  let main_v0 : FVec F S32x512x1024 .f32 := shapeCast S32x512x1024 main_arg0 shapeCasts_S16384x1024_S32x512x1024
  let main_cst : FVec F S_ .f32 := constant S_ .f32 0xFF800000#32
  let main_v1 : FVec F S32x1024 .f32 := (fun x v => Host.reduce FloatOps.maximumf x v reducesTo_S32x512x1024_S32x1024_d1 h_S_) main_v0 main_cst
  let main_v2 : FVec F S32x1x1024 .f32 := broadcastInDim S32x1x1024 ![0, 2] bcast_S32x1024_S32x1x1024_0_2 main_v1
  let main_v3 : FVec F S32x512x1024 .f32 := broadcastInDim S32x512x1024 ![0, 1, 2] bcast_S32x1x1024_S32x512x1024_0_1_2 main_v2
  let main_v4 : IVec S32x512x1024 1 := cmpf .oeq main_v0 main_v3
  let main_v5 : IVec S32x512x1024 32 := (extui 32 · natLt_1_32) main_v4
  let main_c : IVec S_ 32 := constantI S_ 32 0#32
  let main_v6 : IVec S32x1024 32 := (fun x v => Host.reduce IntOp.addi x v reducesTo_S32x512x1024_S32x1024_d1 h_S_) main_v5 main_c
  let main_v7 : IVec S32x1x1024 32 := broadcastInDim S32x1x1024 ![0, 2] bcast_S32x1024_S32x1x1024_0_2 main_v6
  let main_c_0 : IVec S_ 32 := constantI S_ 32 1#32
  let main_v8 : IVec S32x1x1024 32 := broadcastInDim S32x1x1024 ![] bcast_S_S32x1x1024 main_c_0
  let main_v9 : IVec S32x1x1024 1 := cmpi .eq main_v7 main_v8
  main_v9
-- ==== Kernel.lean ====
abbrev S4096x1024 : Shape := ⟨2, ![4096, 1024]⟩
abbrev S2x1024 : Shape := ⟨2, ![2, 1024]⟩
abbrev S512x1024 : Shape := ⟨2, ![512, 1024]⟩
abbrev S4x2x1024 : Shape := ⟨3, ![4, 2, 1024]⟩
abbrev S3 : Shape := ⟨1, ![3]⟩
abbrev S4 : Shape := ⟨1, ![4]⟩
abbrev S_ : Shape := ⟨0, ![]⟩
abbrev S1024 : Shape := ⟨1, ![1024]⟩
abbrev S1x1x1024 : Shape := ⟨3, ![1, 1, 1024]⟩
abbrev S1 : Shape := ⟨1, ![1]⟩
abbrev S1x2x1024 : Shape := ⟨3, ![1, 2, 1024]⟩
abbrev S4x1x1024 : Shape := ⟨3, ![4, 1, 1024]⟩
abbrev S4x1024 : Shape := ⟨2, ![4, 1024]⟩
abbrev S1x1024 : Shape := ⟨2, ![1, 1024]⟩

abbrev nBuf : Space → Nat
  | .hbm => 2
  | .vmem => 4
  | .smem => 0
  | _ => 0

abbrev bufTy : (tb : Table) → Fin (tcTables nBuf tb) → BufTy
  | .hbm, ⟨0, _⟩ => ⟨S4096x1024, .f32⟩
  | .hbm, ⟨1, _⟩ => ⟨S2x1024, .f32⟩
  | .local _ .vmem, ⟨0, _⟩ => ⟨S512x1024, .f32⟩
  | .local _ .vmem, ⟨1, _⟩ => ⟨S512x1024, .f32⟩
  | .local _ .vmem, ⟨2, _⟩ => ⟨S2x1024, .f32⟩
  | .local _ .vmem, ⟨3, _⟩ => ⟨S4x2x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 1 → Bool
  | ⟨0, _⟩ => false
  | _ => false

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  (ofTc nBuf bufTy 1 10 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_scratch0 : Ref sig .tc := ⟨.vmem, 3, rfl⟩
abbrev cc0_sem0_0 : DmaSem sig := 0
abbrev cc0_sem0_1 : DmaSem sig := 1
abbrev cc0_sem1_0 : DmaSem sig := 2
abbrev barrier0 : Sem sig := 0

abbrev nD : Nat := 4
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c0_i32 : BitVec 32 := 0#32
  let v3 : BitVec 1 := Scalar.cmpi .eq arg0 c0_i32
  let v4 : BitVec 32 := Scalar.extui v3
  let c0_i32_0 : BitVec 32 := 0#32
  let v5 : BitVec 1 := Scalar.cmpi .ne v4 c0_i32_0
  v5

def k0_dev1 (d0 : Dev nD) : Nat :=
  let c0_i32_16 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_7 : BitVec 32 := 1#32
  let v27 : BitVec 32 := Scalar.addi v2 c1_i32_7
  let c4_i32_8 : BitVec 32 := 4#32
  let c0_i32_9 : BitVec 32 := 0#32
  let v28 : BitVec 1 := Scalar.cmpi .eq c4_i32_8 c0_i32_9
  let c1_i32_10 : BitVec 32 := 1#32
  let v29 : BitVec 32 := Scalar.select v28 c1_i32_10 c4_i32_8
  let v30 : BitVec 32 := Scalar.remsi v27 v29
  let c0_i32_12 : BitVec 32 := 0#32
  let v32 : BitVec 1 := Scalar.cmpi .slt v30 c0_i32_12
  let c0_i32_13 : BitVec 32 := 0#32
  let v33 : BitVec 1 := Scalar.cmpi .slt v29 c0_i32_13
  let v34 : BitVec 1 := Scalar.xori v32 v33
  let c0_i32_11 : BitVec 32 := 0#32
  let v31 : BitVec 1 := Scalar.cmpi .ne v30 c0_i32_11
  let v35 : BitVec 1 := Scalar.andi v34 v31
  let v36 : BitVec 32 := Scalar.addi v30 v29
  let v37 : BitVec 32 := Scalar.select v35 v36 v30
  let c1_i32_15 : BitVec 32 := 1#32
  let v38 : BitVec 32 := Scalar.muli v37 c1_i32_15
  let v39 : BitVec 32 := Scalar.addi c0_i32_16 v38
  v39.toNat
def k0_dev2 (d0 : Dev nD) : Nat :=
  let c0_i32_25 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let v40 : BitVec 32 := Scalar.addi v2 c2_i32
  let c4_i32_17 : BitVec 32 := 4#32
  let c0_i32_18 : BitVec 32 := 0#32
  let v41 : BitVec 1 := Scalar.cmpi .eq c4_i32_17 c0_i32_18
  let c1_i32_19 : BitVec 32 := 1#32
  let v42 : BitVec 32 := Scalar.select v41 c1_i32_19 c4_i32_17
  let v43 : BitVec 32 := Scalar.remsi v40 v42
  let c0_i32_21 : BitVec 32 := 0#32
  let v45 : BitVec 1 := Scalar.cmpi .slt v43 c0_i32_21
  let c0_i32_22 : BitVec 32 := 0#32
  let v46 : BitVec 1 := Scalar.cmpi .slt v42 c0_i32_22
  let v47 : BitVec 1 := Scalar.xori v45 v46
  let c0_i32_20 : BitVec 32 := 0#32
  let v44 : BitVec 1 := Scalar.cmpi .ne v43 c0_i32_20
  let v48 : BitVec 1 := Scalar.andi v47 v44
  let v49 : BitVec 32 := Scalar.addi v43 v42
  let v50 : BitVec 32 := Scalar.select v48 v49 v43
  let c1_i32_24 : BitVec 32 := 1#32
  let v51 : BitVec 32 := Scalar.muli v50 c1_i32_24
  let v52 : BitVec 32 := Scalar.addi c0_i32_25 v51
  v52.toNat
def k0_dev3 (d0 : Dev nD) : Nat :=
  let c0_i32_34 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v53 : BitVec 32 := Scalar.addi v2 c3_i32
  let c4_i32_26 : BitVec 32 := 4#32
  let c0_i32_27 : BitVec 32 := 0#32
  let v54 : BitVec 1 := Scalar.cmpi .eq c4_i32_26 c0_i32_27
  let c1_i32_28 : BitVec 32 := 1#32
  let v55 : BitVec 32 := Scalar.select v54 c1_i32_28 c4_i32_26
  let v56 : BitVec 32 := Scalar.remsi v53 v55
  let c0_i32_30 : BitVec 32 := 0#32
  let v58 : BitVec 1 := Scalar.cmpi .slt v56 c0_i32_30
  let c0_i32_31 : BitVec 32 := 0#32
  let v59 : BitVec 1 := Scalar.cmpi .slt v55 c0_i32_31
  let v60 : BitVec 1 := Scalar.xori v58 v59
  let c0_i32_29 : BitVec 32 := 0#32
  let v57 : BitVec 1 := Scalar.cmpi .ne v56 c0_i32_29
  let v61 : BitVec 1 := Scalar.andi v60 v57
  let v62 : BitVec 32 := Scalar.addi v56 v55
  let v63 : BitVec 32 := Scalar.select v61 v62 v56
  let c1_i32_33 : BitVec 32 := 1#32
  let v64 : BitVec 32 := Scalar.muli v63 c1_i32_33
  let v65 : BitVec 32 := Scalar.addi c0_i32_34 v64
  v65.toNat
def k0_cond2 (i : grid0.Coords) : BitVec 1 :=
  let arg0 : BitVec 32 := BitVec.ofNat 32 (i 0).val
  let c0_i32_2 : BitVec 32 := 0#32
  let v17 : BitVec 1 := Scalar.cmpi .eq arg0 c0_i32_2
  let v18 : BitVec 32 := Scalar.extui v17
  let c0_i32_3 : BitVec 32 := 0#32
  let v19 : BitVec 1 := Scalar.cmpi .ne v18 c0_i32_3
  v19

def k0_off1 (d0 : Dev nD) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v26 : Index := Scalar.indexCast v2
  let c0_7 : Index := 0#32
  let c0_8 : Index := 0#32
  ![v26.toNat, 0, 0]
def k0_off2 (d0 : Dev nD) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v30 : Index := Scalar.indexCast v2
  let c1 : Index := 1#32
  let c0_9 : Index := 0#32
  ![v30.toNat, 1, 0]
def k0_cond3 (i : grid0.Coords) : BitVec 1 :=
  let arg0 : BitVec 32 := BitVec.ofNat 32 (i 0).val
  let c0_i32_4 : BitVec 32 := 0#32
  let v20 : BitVec 1 := Scalar.cmpi .sgt arg0 c0_i32_4
  let v21 : BitVec 32 := Scalar.extui v20
  let c0_i32_5 : BitVec 32 := 0#32
  let v22 : BitVec 1 := Scalar.cmpi .ne v21 c0_i32_5
  v22

def k0_off3 (d0 : Dev nD) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v26 : Index := Scalar.indexCast v2
  let c0_7 : Index := 0#32
  let c0_8 : Index := 0#32
  ![v26.toNat, 0, 0]
def k0_off4 (d0 : Dev nD) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v29 : Index := Scalar.indexCast v2
  let c1 : Index := 1#32
  let c0_9 : Index := 0#32
  ![v29.toNat, 1, 0]
def k0_cond4 (i : grid0.Coords) : BitVec 1 :=
  let arg0 : BitVec 32 := BitVec.ofNat 32 (i 0).val
  let c7_i32 : BitVec 32 := 7#32
  let v23 : BitVec 1 := Scalar.cmpi .eq arg0 c7_i32
  let v24 : BitVec 32 := Scalar.extui v23
  let c0_i32_6 : BitVec 32 := 0#32
  let v25 : BitVec 1 := Scalar.cmpi .ne v24 c0_i32_6
  v25

def k0_off5 (d0 : Dev nD) : Fin 1 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  ![v2.toNat]
def k0_off6 (d0 : Dev nD) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_17 : BitVec 32 := 0#32
  let c0_i32_18 : BitVec 32 := 0#32
  ![v2.toNat, 0, 0]
def k0_dev4 (d0 : Dev nD) : Nat :=
  let c0_i32_16 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_7 : BitVec 32 := 1#32
  let v26 : BitVec 32 := Scalar.addi v2 c1_i32_7
  let c4_i32_8 : BitVec 32 := 4#32
  let c0_i32_9 : BitVec 32 := 0#32
  let v27 : BitVec 1 := Scalar.cmpi .eq c4_i32_8 c0_i32_9
  let c1_i32_10 : BitVec 32 := 1#32
  let v28 : BitVec 32 := Scalar.select v27 c1_i32_10 c4_i32_8
  let v29 : BitVec 32 := Scalar.remsi v26 v28
  let c0_i32_12 : BitVec 32 := 0#32
  let v31 : BitVec 1 := Scalar.cmpi .slt v29 c0_i32_12
  let c0_i32_13 : BitVec 32 := 0#32
  let v32 : BitVec 1 := Scalar.cmpi .slt v28 c0_i32_13
  let v33 : BitVec 1 := Scalar.xori v31 v32
  let c0_i32_11 : BitVec 32 := 0#32
  let v30 : BitVec 1 := Scalar.cmpi .ne v29 c0_i32_11
  let v34 : BitVec 1 := Scalar.andi v33 v30
  let v35 : BitVec 32 := Scalar.addi v29 v28
  let v36 : BitVec 32 := Scalar.select v34 v35 v29
  let c1_i32_15 : BitVec 32 := 1#32
  let v37 : BitVec 32 := Scalar.muli v36 c1_i32_15
  let v38 : BitVec 32 := Scalar.addi c0_i32_16 v37
  v38.toNat
def k0_dev5 (d0 : Dev nD) : Nat :=
  let c0_i32_29 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let v47 : BitVec 32 := Scalar.addi v2 c2_i32
  let c4_i32_21 : BitVec 32 := 4#32
  let c0_i32_22 : BitVec 32 := 0#32
  let v48 : BitVec 1 := Scalar.cmpi .eq c4_i32_21 c0_i32_22
  let c1_i32_23 : BitVec 32 := 1#32
  let v49 : BitVec 32 := Scalar.select v48 c1_i32_23 c4_i32_21
  let v50 : BitVec 32 := Scalar.remsi v47 v49
  let c0_i32_25 : BitVec 32 := 0#32
  let v52 : BitVec 1 := Scalar.cmpi .slt v50 c0_i32_25
  let c0_i32_26 : BitVec 32 := 0#32
  let v53 : BitVec 1 := Scalar.cmpi .slt v49 c0_i32_26
  let v54 : BitVec 1 := Scalar.xori v52 v53
  let c0_i32_24 : BitVec 32 := 0#32
  let v51 : BitVec 1 := Scalar.cmpi .ne v50 c0_i32_24
  let v55 : BitVec 1 := Scalar.andi v54 v51
  let v56 : BitVec 32 := Scalar.addi v50 v49
  let v57 : BitVec 32 := Scalar.select v55 v56 v50
  let c1_i32_28 : BitVec 32 := 1#32
  let v58 : BitVec 32 := Scalar.muli v57 c1_i32_28
  let v59 : BitVec 32 := Scalar.addi c0_i32_29 v58
  v59.toNat
def k0_dev6 (d0 : Dev nD) : Nat :=
  let c0_i32_42 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v68 : BitVec 32 := Scalar.addi v2 c3_i32
  let c4_i32_34 : BitVec 32 := 4#32
  let c0_i32_35 : BitVec 32 := 0#32
  let v69 : BitVec 1 := Scalar.cmpi .eq c4_i32_34 c0_i32_35
  let c1_i32_36 : BitVec 32 := 1#32
  let v70 : BitVec 32 := Scalar.select v69 c1_i32_36 c4_i32_34
  let v71 : BitVec 32 := Scalar.remsi v68 v70
  let c0_i32_38 : BitVec 32 := 0#32
  let v73 : BitVec 1 := Scalar.cmpi .slt v71 c0_i32_38
  let c0_i32_39 : BitVec 32 := 0#32
  let v74 : BitVec 1 := Scalar.cmpi .slt v70 c0_i32_39
  let v75 : BitVec 1 := Scalar.xori v73 v74
  let c0_i32_37 : BitVec 32 := 0#32
  let v72 : BitVec 1 := Scalar.cmpi .ne v71 c0_i32_37
  let v76 : BitVec 1 := Scalar.andi v75 v72
  let v77 : BitVec 32 := Scalar.addi v71 v70
  let v78 : BitVec 32 := Scalar.select v76 v77 v71
  let c1_i32_41 : BitVec 32 := 1#32
  let v79 : BitVec 32 := Scalar.muli v78 c1_i32_41
  let v80 : BitVec 32 := Scalar.addi c0_i32_42 v79
  v80.toNat
def k0_off7 (d0 : Dev nD) (c1_i32_47 : BitVec 32) : Fin 1 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v89 : BitVec 32 := Scalar.addi v2 c1_i32_47
  let c4_i32_48 : BitVec 32 := 4#32
  let c0_i32_49 : BitVec 32 := 0#32
  let v90 : BitVec 1 := Scalar.cmpi .eq c4_i32_48 c0_i32_49
  let c1_i32_50 : BitVec 32 := 1#32
  let v91 : BitVec 32 := Scalar.select v90 c1_i32_50 c4_i32_48
  let v92 : BitVec 32 := Scalar.remsi v89 v91
  let c0_i32_52 : BitVec 32 := 0#32
  let v94 : BitVec 1 := Scalar.cmpi .slt v92 c0_i32_52
  let c0_i32_53 : BitVec 32 := 0#32
  let v95 : BitVec 1 := Scalar.cmpi .slt v91 c0_i32_53
  let v96 : BitVec 1 := Scalar.xori v94 v95
  let c0_i32_51 : BitVec 32 := 0#32
  let v93 : BitVec 1 := Scalar.cmpi .ne v92 c0_i32_51
  let v97 : BitVec 1 := Scalar.andi v96 v93
  let v98 : BitVec 32 := Scalar.addi v92 v91
  let v99 : BitVec 32 := Scalar.select v97 v98 v92
  ![v99.toNat]
def k0_off8 (d0 : Dev nD) (c1_i32_47 : BitVec 32) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v89 : BitVec 32 := Scalar.addi v2 c1_i32_47
  let c4_i32_48 : BitVec 32 := 4#32
  let c0_i32_49 : BitVec 32 := 0#32
  let v90 : BitVec 1 := Scalar.cmpi .eq c4_i32_48 c0_i32_49
  let c1_i32_50 : BitVec 32 := 1#32
  let v91 : BitVec 32 := Scalar.select v90 c1_i32_50 c4_i32_48
  let v92 : BitVec 32 := Scalar.remsi v89 v91
  let c0_i32_52 : BitVec 32 := 0#32
  let v94 : BitVec 1 := Scalar.cmpi .slt v92 c0_i32_52
  let c0_i32_53 : BitVec 32 := 0#32
  let v95 : BitVec 1 := Scalar.cmpi .slt v91 c0_i32_53
  let v96 : BitVec 1 := Scalar.xori v94 v95
  let c0_i32_51 : BitVec 32 := 0#32
  let v93 : BitVec 1 := Scalar.cmpi .ne v92 c0_i32_51
  let v97 : BitVec 1 := Scalar.andi v96 v93
  let v98 : BitVec 32 := Scalar.addi v92 v91
  let v99 : BitVec 32 := Scalar.select v97 v98 v92
  let c0_i32_57 : BitVec 32 := 0#32
  let c0_i32_58 : BitVec 32 := 0#32
  ![v99.toNat, 0, 0]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]
-- ==== ReferenceIdeal.lean ====
abbrev S16384x1024 : Shape := ⟨2, ![16384, 1024]⟩
abbrev S_ : Shape := ⟨0, ![]⟩
abbrev S1024 : Shape := ⟨1, ![1024]⟩
abbrev S1x1024 : Shape := ⟨2, ![1, 1024]⟩
abbrev S2x1024 : Shape := ⟨2, ![2, 1024]⟩

abbrev nBuf : Space → Nat
  | .hbm => 12
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x1024, .i32⟩
  | .hbm, ⟨2, _⟩ => ⟨S_, .f32⟩
  | .hbm, ⟨3, _⟩ => ⟨S_, .i32⟩
  | .hbm, ⟨4, _⟩ => ⟨S1024, .f32⟩
  | .hbm, ⟨5, _⟩ => ⟨S1024, .i32⟩
  | .hbm, ⟨6, _⟩ => ⟨S1024, .f32⟩
  | .hbm, ⟨7, _⟩ => ⟨S_, .f32⟩
  | .hbm, ⟨8, _⟩ => ⟨S1024, .f32⟩
  | .hbm, ⟨9, _⟩ => ⟨S1x1024, .f32⟩
  | .hbm, ⟨10, _⟩ => ⟨S1x1024, .f32⟩
  | .hbm, ⟨11, _⟩ => ⟨S2x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_call0_v0 : Ref sig .tc := ⟨.hbm, 1, rfl⟩
abbrev main_call0_cst : Ref sig .tc := ⟨.hbm, 2, rfl⟩
abbrev main_call0_c : Ref sig .tc := ⟨.hbm, 3, rfl⟩
abbrev main_call0_v1_0 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩

abbrev nD : Nat := 1
abbrev τ : Topo := Topo.v7x

variable {F : FTy → Type} [FloatOps F]
-- ==== Proof.Slots.lean ====
/-
# The exchange buffer

Each device keeps one buffer of shape 4x2x1024: slot `s` is the pair of rows (maxima, row indices) of device `s`.
A device fills its own slot while it walks over its block and finds the other three slots filled by its peers.
This module names the slots, says which elements a slot has, and computes what the loads and stores on a slot
read and leave.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Pipeline.Value
public import Idealize.ShloMosaic.Lib.Tactic

@[expose] public section

set_option maxRecDepth 16384

noncomputable section

namespace Cert.KernelIdeal.Exchange

open Cert.KernelIdeal Cert.KernelIdeal.Gen
open Idealize.ShloMosaic
open Idealize.ShloMosaic.TcCoe

variable {F : FTy → Type} [FloatOps F]

/-! ## Peers -/

/-- The device `k + 1` steps after `c` round the mesh: the target of `c`'s `k`-th signal and `k`-th copy. -/
def pr (k : Fin 3) (c : Dev nD) : Dev nD := ⟨(c.val + k.val + 1) % 4, Nat.mod_lt _ (by decide)⟩
/-- The device `k + 1` steps before `c`: the one whose `k`-th target is `c`. -/
def sc (k : Fin 3) (c : Dev nD) : Dev nD := ⟨(c.val + 3 - k.val) % 4, Nat.mod_lt _ (by decide)⟩

theorem sc_pr : ∀ (k : Fin 3) (c : Dev nD), sc k (pr k c) = c := by decide +kernel
theorem pr_sc : ∀ (k : Fin 3) (c : Dev nD), pr k (sc k c) = c := by decide +kernel
theorem pr_ne : ∀ (k : Fin 3) (c : Dev nD), pr k c ≠ c := by decide +kernel
theorem pr_inj : ∀ (k k' : Fin 3) (c : Dev nD), pr k c = pr k' c → k = k' := by decide +kernel
/-- A device other than `c` is one of its three peers. -/
theorem pr_cover : ∀ (c s : Dev nD), s = c ∨ s = pr 0 c ∨ s = pr 1 c ∨ s = pr 2 c := by decide +kernel
/-- `pr k` as a permutation of the devices. -/
def rot (k : Fin 3) : Dev nD ≃ Dev nD := ⟨pr k, sc k, sc_pr k, pr_sc k⟩

/-- The devices the signals and the copies name. -/
theorem dev1_eq : ∀ c : Dev nD, k0_dev1 c = (pr 0 c).val := by decide +kernel
theorem dev2_eq : ∀ c : Dev nD, k0_dev2 c = (pr 1 c).val := by decide +kernel
theorem dev3_eq : ∀ c : Dev nD, k0_dev3 c = (pr 2 c).val := by decide +kernel
theorem dev4_eq : ∀ c : Dev nD, k0_dev4 c = (pr 0 c).val := by decide +kernel
theorem dev5_eq : ∀ c : Dev nD, k0_dev5 c = (pr 1 c).val := by decide +kernel
theorem dev6_eq : ∀ c : Dev nD, k0_dev6 c = (pr 2 c).val := by decide +kernel
theorem off7_eq1 : ∀ c : Dev nD, k0_off7 c 1#32 = ![(pr 0 c).val] := by decide +kernel
theorem off7_eq2 : ∀ c : Dev nD, k0_off7 c 2#32 = ![(pr 1 c).val] := by decide +kernel
theorem off7_eq3 : ∀ c : Dev nD, k0_off7 c 3#32 = ![(pr 2 c).val] := by decide +kernel
theorem off8_eq1 : ∀ c : Dev nD, k0_off8 c 1#32 = ![(pr 0 c).val, 0, 0] := by decide +kernel
theorem off8_eq2 : ∀ c : Dev nD, k0_off8 c 2#32 = ![(pr 1 c).val, 0, 0] := by decide +kernel
theorem off8_eq3 : ∀ c : Dev nD, k0_off8 c 3#32 = ![(pr 2 c).val, 0, 0] := by decide +kernel

/-! ## Slots -/

/-- The whole exchange buffer. -/
abbrev commM : Memref sig .tc .vmem S4x2x1024 .f32 := Memref.whole cc0_scratch0
/-- Contents of the exchange buffer. -/
abbrev Scr (F : FTy → Type) : Type := S4x2x1024.Idx → Elt F .f32

theorem slot_inb : ∀ s : Dev nD, ∀ a, (![s.val, 0, 0] : Fin 3 → Nat) a + S1x2x1024.size a ≤ S4x2x1024.size a := by decide +kernel
/-- Slot `s` of the exchange buffer, as a pair of rows. -/
abbrev slotM (s : Dev nD) : Memref sig .tc .vmem S2x1024 .f32 :=
  (commM.slice (Rect.unit (s := S4x2x1024) ![s.val, 0, 0] S1x2x1024.size (slot_inb s)) (fun _ => rfl)).squeeze S2x1024 squeezes_S1x2x1024_S2x1024

/-- The elements of slot `s`. -/
abbrev slotSet (s : Dev nD) : Finset S4x2x1024.Idx := (Rect.unit (s := S4x2x1024) ![s.val, 0, 0] S1x2x1024.size (slot_inb s)).set

theorem slotM_set (s : Dev nD) : (slotM s).view.set = slotSet s := by
  show (((View.whole cc0_scratch0).slice (Rect.unit (s := S4x2x1024) ![s.val, 0, 0] S1x2x1024.size (slot_inb s))).reshape S2x1024 _).set = _
  rw [View.set_reshape]; exact View.set_slice_whole _ _

theorem mem_slot (s : Dev nD) (i : S4x2x1024.Idx) : i ∈ slotSet s ↔ (i 0).val = s.val := by
  rw [Rect.mem_set_unit]
  have h1 : (i 1).val < 2 := (i 1).isLt
  have h2 : (i 2).val < 1024 := (i 2).isLt
  constructor
  · intro h
    have h0 := h 0
    have e : ((![s.val, 0, 0] : Fin 3 → Nat) 0) = s.val := rfl
    have e' : S1x2x1024.size 0 = 1 := rfl
    rw [e, e'] at h0; omega
  · intro h a
    fin_cases a
    · show s.val ≤ (i 0).val ∧ (i 0).val < s.val + 1; omega
    · show 0 ≤ (i 1).val ∧ (i 1).val < 0 + 2; omega
    · show 0 ≤ (i 2).val ∧ (i 2).val < 0 + 1024; omega

/-- Different slots share no element. -/
theorem slot_disjoint {s s' : Dev nD} (h : s ≠ s') : Disjoint (slotSet s) (slotSet s') := by
  rw [Finset.disjoint_left]
  intro i hi hi'
  rw [mem_slot] at hi hi'
  exact h (Fin.ext (hi.symm.trans hi'))

/-- The four slots are the whole buffer. -/
theorem slots_univ : (Finset.univ : Finset (Dev nD)).biUnion slotSet = Finset.univ := by
  ext i
  simp only [Finset.mem_biUnion, Finset.mem_univ, true_and, iff_true]
  have h0 : (i 0).val < 4 := (i 0).isLt
  exact ⟨⟨(i 0).val, h0⟩, (mem_slot _ _).mpr rfl⟩

/-! ## The two rows of a slot -/

theorem row_inb : ∀ (s : Dev nD) (h : Fin 2), ∀ a, (![s.val, h.val, 0] : Fin 3 → Nat) a + S1x1x1024.size a ≤ S4x2x1024.size a := by decide +kernel
/-- Row `h` of slot `s`: the maxima at `h = 0`, the row indices at `h = 1`. -/
abbrev rowR (s : Dev nD) (h : Fin 2) : Rect S4x2x1024 := Rect.unit (s := S4x2x1024) ![s.val, h.val, 0] S1x1x1024.size (row_inb s h)

theorem mem_row (s : Dev nD) (h : Fin 2) (i : S4x2x1024.Idx) : i ∈ (rowR s h).set ↔ (i 0).val = s.val ∧ (i 1).val = h.val := by
  rw [Rect.mem_set_unit]
  have h2 : (i 2).val < 1024 := (i 2).isLt
  constructor
  · intro hh
    have h0 := hh 0
    have h1 := hh 1
    have e : ((![s.val, h.val, 0] : Fin 3 → Nat) 0) = s.val := rfl
    have e1 : ((![s.val, h.val, 0] : Fin 3 → Nat) 1) = h.val := rfl
    have e' : S1x1x1024.size 0 = 1 := rfl
    have e1' : S1x1x1024.size 1 = 1 := rfl
    rw [e, e'] at h0; rw [e1, e1'] at h1; omega
  · intro hh a
    fin_cases a
    · show s.val ≤ (i 0).val ∧ (i 0).val < s.val + 1; omega
    · show h.val ≤ (i 1).val ∧ (i 1).val < h.val + 1; omega
    · show 0 ≤ (i 2).val ∧ (i 2).val < 0 + 1024; omega

theorem row_subset (s : Dev nD) (h : Fin 2) : (rowR s h).set ⊆ slotSet s := by
  intro i hi; rw [mem_row] at hi; exact (mem_slot s i).mpr hi.1

/-- What a load of a row needs to be covered by: its slot. -/
theorem load_row_subset (s : Dev nD) (h : Fin 2) : commM.view.setOn (rowR s h).set ⊆ slotSet s := by
  rw [show commM.view.setOn (rowR s h).set = (rowR s h).set from Finset.map_refl]; exact row_subset s h
/-- What a store to a row touches: within its slot. -/
theorem store_row_subset (s : Dev nD) (h : Fin 2) : (commM.access (rowR s h)).setOn Finset.univ ⊆ slotSet s := by
  rw [show (commM.access (rowR s h)).setOn Finset.univ = (rowR s h).set from View.set_slice_whole _ _]; exact row_subset s h

/-- The position of column `j` in a row of shape 1x1x1024. -/
def colIx (j : Fin 1024) : S1x1x1024.Idx := fun a => match a with
  | ⟨0, _⟩ => ⟨0, Nat.one_pos⟩
  | ⟨1, _⟩ => ⟨0, Nat.one_pos⟩
  | ⟨2, _⟩ => ⟨j.val, j.isLt⟩
/-- The column of an element of the exchange buffer. -/
def colOf (i : S4x2x1024.Idx) : Fin 1024 := ⟨(i 2).val, (i 2).isLt⟩

/-- A slot's contents from its two rows; other slots' elements are filled alike, and are never looked at. -/
def slotBuf (V I : S1x1x1024.Idx → Elt F .f32) : Scr F := fun i => if (i 1).val = 0 then V (colIx (colOf i)) else I (colIx (colOf i))

theorem row_idx (s : Dev nD) (h : Fin 2) (y : S1x1x1024.Idx) :
    ((rowR s h).idx y 0).val = s.val ∧ ((rowR s h).idx y 1).val = h.val ∧ ((rowR s h).idx y 2).val = (y 2).val := by
  have h0 : (y 0).val < 1 := (y 0).isLt
  have h1 : (y 1).val < 1 := (y 1).isLt
  refine ⟨?_, ?_, ?_⟩
  · show s.val + 1 * (y 0).val = _; omega
  · show h.val + 1 * (y 1).val = _; omega
  · show 0 + 1 * (y 2).val = _; omega

theorem colIx_eq (j : Fin 1024) (y : S1x1x1024.Idx) (hj : j.val = (y 2).val) : colIx j = y := by
  funext a
  have h0 : (y 0).val < 1 := (y 0).isLt
  have h1 : (y 1).val < 1 := (y 1).isLt
  fin_cases a
  · exact Fin.ext (show 0 = (y 0).val by omega)
  · exact Fin.ext (show 0 = (y 1).val by omega)
  · exact Fin.ext hj

theorem colOf_row (s : Dev nD) (h : Fin 2) (y : S1x1x1024.Idx) : colIx (colOf ((rowR s h).idx y)) = y :=
  colIx_eq _ _ (row_idx s h y).2.2

theorem readAt_row (s : Dev nD) (h : Fin 2) (f : Scr F) :
    commM.view.readAt (Elt F) (rowR s h).toLoadRect f = fun y => f ((rowR s h).idx y) := rfl

theorem slotBuf_row0 (s : Dev nD) (V I : S1x1x1024.Idx → Elt F .f32) (y : S1x1x1024.Idx) : slotBuf V I ((rowR s 0).idx y) = V y := by
  unfold slotBuf
  rw [if_pos (show ((rowR s 0).idx y 1).val = 0 from (row_idx s 0 y).2.1), colOf_row]
theorem slotBuf_row1 (s : Dev nD) (V I : S1x1x1024.Idx → Elt F .f32) (y : S1x1x1024.Idx) : slotBuf V I ((rowR s 1).idx y) = I y := by
  unfold slotBuf
  rw [if_neg (by rw [show ((rowR s 1).idx y 1).val = 1 from (row_idx s 1 y).2.1]; decide), colOf_row]

/-- Reading row 0 of a slot gives its maxima, -/
theorem read_row0 (s : Dev nD) (V I : S1x1x1024.Idx → Elt F .f32) :
    commM.view.readAt (Elt F) (rowR s 0).toLoadRect (slotBuf V I) = V := by
  rw [readAt_row]; exact funext fun y => slotBuf_row0 s V I y
/-- reading row 1 its indices. -/
theorem read_row1 (s : Dev nD) (V I : S1x1x1024.Idx → Elt F .f32) :
    commM.view.readAt (Elt F) (rowR s 1).toLoadRect (slotBuf V I) = I := by
  rw [readAt_row]; exact funext fun y => slotBuf_row1 s V I y

/-- The exchange buffer after `w` is stored to row `h` of slot `s`. -/
abbrev wrRow (s : Dev nD) (h : Fin 2) (f : Scr F) (w : S1x1x1024.Idx → Elt F .f32) : Scr F :=
  (commM.access (rowR s h)).write (Elt F) f w Finset.univ

/-- A store to a row, at an element of that row. -/
theorem write_row_at (s : Dev nD) (h : Fin 2) (f : Scr F) (w : S1x1x1024.Idx → Elt F .f32) (i : S4x2x1024.Idx)
    (h0 : (i 0).val = s.val) (h1 : (i 1).val = h.val) : wrRow s h f w i = w (colIx (colOf i)) := by
  have e : (commM.access (rowR s h)).emb (colIx (colOf i)) = i := by
    show (rowR s h).idx (colIx (colOf i)) = i
    have hr := row_idx s h (colIx (colOf i))
    funext a
    fin_cases a
    · exact Fin.ext (hr.1.trans h0.symm)
    · exact Fin.ext (hr.2.1.trans h1.symm)
    · exact Fin.ext hr.2.2
  have hw := View.write_emb_of_mem (v := commM.access (rowR s h)) (Val := Elt F) f w (Finset.mem_univ (colIx (colOf i)))
  rw [e] at hw
  exact hw
/-- A store to a row, at an element off that row. -/
theorem write_row_off (s : Dev nD) (h : Fin 2) (f : Scr F) (w : S1x1x1024.Idx → Elt F .f32) (i : S4x2x1024.Idx)
    (h1 : (i 1).val ≠ h.val) : wrRow s h f w i = f i := by
  refine View.write_of_not_mem _ _ _ ?_
  rw [show (commM.access (rowR s h)).setOn Finset.univ = (rowR s h).set from View.set_slice_whole _ _, mem_row]
  exact fun hh => h1 hh.2

/-- The maxima stored and then the indices stored: the slot holds the two, whatever it held. -/
theorem write_rows (s : Dev nD) (f : Scr F) (V I : S1x1x1024.Idx → Elt F .f32) : ∀ i ∈ slotSet s,
    wrRow s 1 (wrRow s 0 f V) I i = slotBuf V I i := by
  intro i hi
  rw [mem_slot] at hi
  have h1 : (i 1).val < 2 := (i 1).isLt
  unfold slotBuf
  by_cases hz : (i 1).val = 0
  · rw [if_pos hz, write_row_off s 1 _ _ _ (by rw [hz]; decide), write_row_at s 0 _ _ _ hi hz]
  · rw [if_neg hz, write_row_at s 1 _ _ _ hi (show (i 1).val = 1 by omega)]
/-- After the maxima alone are stored over a slot, the indices read are the old ones. -/
theorem read_row1_write0 (s : Dev nD) (V V' I : S1x1x1024.Idx → Elt F .f32) :
    commM.view.readAt (Elt F) (rowR s 1).toLoadRect (wrRow s 0 (slotBuf V I) V') = I := by
  rw [readAt_row]
  funext y
  rw [write_row_off s 0 _ _ _ (by rw [show ((rowR s 1).idx y 1).val = 1 from (row_idx s 1 y).2.1]; decide)]
  exact slotBuf_row1 s V I y

end Cert.KernelIdeal.Exchange

end
-- ==== Proof.Protocol.lean ====
/-
# The exchange protocol

Who signals whom, who copies what where, and what each arrival hands over.

* Barrier. At its first grid point device `p` signals each of its three peers once, and waits for three units of its
  own barrier semaphore. Its `k`-th signal goes to `pr k p`; with it `p` hands over its own slot `pr k p` of its exchange
  buffer (contents arbitrary) and the fact that its receive semaphore for that slot is at its first round. So past the
  wait device `c` holds slot `c` of every peer's exchange buffer: the three places it will copy to.
* Copies. At its last grid point device `c` copies its own slot to slot `c` of each peer: the `k`-th copy goes to `pr k c`,
  signals `c`'s `k`-th send semaphore (handing back the third of the source slot the copy read from) and `pr k c`'s
  receive semaphore number `c` (handing over that slot, now holding `c`'s final maxima and row indices).
* Waits. Device `c` waits on its receive semaphores `pr 0 c`, `pr 1 c`, `pr 2 c`, then on its three send semaphores. Its
  receive semaphore number `c` is never signalled.
-/
module

public import proofs.«01_k».proof.Proof.Slots
public import Idealize.ShloMosaic.Lib.Ring.Trips

@[expose] public section

set_option maxRecDepth 16384

noncomputable section

namespace Cert.KernelIdeal.Exchange

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Ring (shares3 pointsTo_thirds)
open Idealize.ShloMosaic.Pipeline (Dat Cfg Window BodyObligation cellOf)

variable {F : FTy → Type} [FloatOps F]

/-! ## Resources -/

/-- The protocol's counters: up to three duties a round. -/
abbrev UB : Type := URounds (GSem nD τ sig) (Fin 3)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-- The machine at launch: any memory, all semaphores at zero. -/
def s₀ : MemSt nD τ sig (Elt F) := ⟨m, fun _ => 0, ρ⟩

/-! ## Semaphores -/

/-- The barrier semaphore the kernels share. -/
abbrev barS : Sem sig := (SemArray.scalar (sig.barrier 0 rfl) : Sems sig S_).sem
theorem send_inb : ∀ k : Fin 3, ∀ a, (![k.val] : Fin 1 → Nat) a + S1.size a ≤ S3.size a := by decide +kernel
theorem recv_inb : ∀ s : Dev nD, ∀ a, (![s.val] : Fin 1 → Nat) a + S1.size a ≤ S4.size a := by decide +kernel
/-- The `k`-th send semaphore, and -/
abbrev sendS (k : Fin 3) : DmaSem sig := ((cc0_scratch1.slice (Rect.unit (s := S3) ![k.val] S1.size (send_inb k))).squeeze S_ squeezes_S1_S_).sem
/-- the receive semaphore for slot `s`. -/
abbrev recvS (s : Dev nD) : DmaSem sig := ((cc0_scratch2.slice (Rect.unit (s := S4) ![s.val] S1.size (recv_inb s))).squeeze S_ squeezes_S1_S_).sem

abbrev barCell (c : Dev nD) : GSem nD τ sig := ((c : Thread nD τ), .reg barS)
abbrev sendCell (c : Dev nD) (k : Fin 3) : GSem nD τ sig := ((c : Thread nD τ), .dma (sendS k))
abbrev recvCell (c s : Dev nD) : GSem nD τ sig := ((c : Thread nD τ), .dma (recvS s))

/-- The kernel's scratch semaphores, in the order the launch lists them. -/
abbrev osem : Fin 7 → SemLoc sig := fun
  | 0 => .dma (sendS 0) | 1 => .dma (sendS 1) | 2 => .dma (sendS 2)
  | 3 => .dma (recvS 0) | 4 => .dma (recvS 1) | 5 => .dma (recvS 2) | 6 => .dma (recvS 3)
/-- All eight semaphores of the protocol: the barrier's, three for sending, four for receiving. -/
abbrev csem : Fin 8 → SemLoc sig := fun
  | 0 => .reg barS
  | 1 => .dma (sendS 0) | 2 => .dma (sendS 1) | 3 => .dma (sendS 2)
  | 4 => .dma (recvS 0) | 5 => .dma (recvS 1) | 6 => .dma (recvS 2) | 7 => .dma (recvS 3)
abbrev kcell (cj : Dev nD × Fin 8) : GSem nD τ sig := ((cj.1 : Thread nD τ), csem cj.2)
/-- Where the send and receive semaphores stand in that list. -/
def sIx (k : Fin 3) : Fin 8 := ⟨k.val + 1, by omega⟩
def vIx (s : Dev nD) : Fin 8 := ⟨s.val + 4, by have : s.val < 4 := s.isLt; omega⟩
theorem csem_sIx : ∀ k : Fin 3, csem (sIx k) = .dma (sendS k) := by decide +kernel
theorem csem_vIx : ∀ s : Dev nD, csem (vIx s) = .dma (recvS s) := by decide +kernel
theorem csem_injective : ∀ j j' : Fin 8, csem j = csem j' → j = j' := by decide +kernel

/-- What a semaphore is for. -/
inductive Kd where
  | bar | snd (k : Fin 3) | rcv (s : Fin 4) | other
  deriving DecidableEq

def tag (sm : SemLoc sig) : Kd :=
  if sm = .reg barS then .bar
  else if sm = .dma (sendS 0) then .snd 0 else if sm = .dma (sendS 1) then .snd 1 else if sm = .dma (sendS 2) then .snd 2
  else if sm = .dma (recvS 0) then .rcv 0 else if sm = .dma (recvS 1) then .rcv 1
  else if sm = .dma (recvS 2) then .rcv 2 else if sm = .dma (recvS 3) then .rcv 3
  else .other

theorem tag_bar : tag (.reg barS) = .bar := by decide +kernel
theorem tag_send : ∀ k : Fin 3, tag (.dma (sendS k)) = .snd k := by decide +kernel
theorem tag_recv : ∀ s : Dev nD, tag (.dma (recvS s)) = .rcv s := by decide +kernel

/-- The bytes one copy is worth on a semaphore. -/
abbrev N : ℕ := (slotM 0).view.dmaCredit
theorem N_pos : 0 < N := View.dmaCredit_pos _ (by decide)
theorem credit_slot (s : Dev nD) : (slotM s).view.dmaCredit = N := rfl

/-! ## Contents -/

/-- Grid point `n`. -/
def pt (n : ℕ) : Fin cfg0.N := ⟨n % 8, by rw [show cfg0.N = 8 from N_0]; exact Nat.mod_lt _ (by decide)⟩
theorem pt_val (t : Fin cfg0.N) : pt t.val = t := by
  have h : t.val < 8 := lt_of_lt_of_eq t.isLt N_0
  exact Fin.ext (Nat.mod_eq_of_lt h)

/-- The block of 512 rows device `c` works on at grid point `t`. -/
def tile (c : Dev nD) (t : Fin cfg0.N) : S512x1024.Idx → Elt F .f32 :=
  (win0_0.blk t).view.read (Elt F) ((s₀ m ρ).mem ((c : Thread nD τ).loc main_arg0))

/-- Device `c`'s running maxima and row indices after grid point `n`. -/
def acc (c : Dev nD) : ℕ → (S1x1x1024.Idx → Elt F .f32) × (S1x1x1024.Idx → Elt F .f32)
  | 0 => (k0_pay4 (tile m ρ c (pt 0)), k0_pay5 (cfg0.grid.coords (pt 0)) c (tile m ρ c (pt 0)))
  | n + 1 => (k0_pay8 (tile m ρ c (pt (n + 1))) (acc c n).1,
      k0_pay9 (cfg0.grid.coords (pt (n + 1))) c (tile m ρ c (pt (n + 1))) (acc c n).1 (acc c n).2)

/-- Device `c`'s own slot after grid point `n`. -/
def buf (c : Dev nD) (n : ℕ) : Scr F := slotBuf (acc m ρ c n).1 (acc m ρ c n).2
/-- The exchange buffer once every slot has arrived: the same on every device. -/
def finBuf : Scr F := fun i => buf m ρ ⟨(i 0).val, (i 0).isLt⟩ 7 i

theorem finBuf_slot (s : Dev nD) : ∀ i ∈ slotSet s, buf m ρ s 7 i = finBuf m ρ i := by
  intro i hi
  rw [mem_slot] at hi
  unfold finBuf
  rw [show (⟨(i 0).val, (i 0).isLt⟩ : Dev nD) = s from Fin.ext hi]

/-- Slot `s` of device `p`'s exchange buffer holding `f`, at share `q`. -/
def slotPts (p s : Dev nD) (q : PosShare TreeShare) (f : Scr F) : sProp 𝕄 := ((p : Thread nD τ).loc cc0_scratch0) ↦[slotSet s]{q} f

omit [FloatOps F] in
instance slotPts_storable (p s : Dev nD) (q : PosShare TreeShare) (f : Scr F) : BI.Storable (upEmb : UEmb _ 𝕄) (slotPts p s q f) := by
  unfold slotPts; infer_instance

omit [FloatOps F] in
theorem slotPts_congr (p s : Dev nD) (q : PosShare TreeShare) {f g : Scr F} (h : ∀ i ∈ slotSet s, f i = g i) :
    (slotPts p s q f : sProp 𝕄) = slotPts p s q g := by
  unfold slotPts; exact pointsTo_congr h

omit [FloatOps F] in
/-- A list of the devices that starts at `c`: a separated product over the devices, read off along it. -/
theorem bigSep_peers (c : Dev nD) (Φ : Dev nD → sProp 𝕄) :
    bigSep Finset.univ Φ = iprop(Φ c ∗ Φ (pr 0 c) ∗ Φ (pr 1 c) ∗ Φ (pr 2 c)) :=
  bigSep_univ_eq_bigSepL [c, pr 0 c, pr 1 c, pr 2 c] (by revert c; decide +kernel) (by revert c; decide +kernel) Φ

omit [FloatOps F] in
/-- The whole exchange buffer is its four slots. -/
theorem whole_slots (p c : Dev nD) (f : Scr F) :
    (((p : Thread nD τ).loc cc0_scratch0) ↦{fullShare} f : sProp 𝕄)
      = iprop(slotPts p c fullShare f ∗ slotPts p (pr 0 c) fullShare f ∗ slotPts p (pr 1 c) fullShare f ∗ slotPts p (pr 2 c) fullShare f) := by
  have h := pointsTo_biUnion (ℓ := (p : Thread nD τ).loc cc0_scratch0) (q := fullShare) (f := f) (Ix := Unit) (Name := ℕ) (U := UU) (Lvl := ℕ)
    (Finset.univ : Finset (Dev nD)) slotSet (fun a _ b _ hab => slot_disjoint hab)
  rw [slots_univ] at h
  exact h.trans (bigSep_peers c fun s => slotPts p s fullShare f)

/-! ## The schedule -/

/-- What a peer's signal hands `c`: slot `c` of that peer's exchange buffer, and that the peer's receive semaphore for it
    is at its first round. -/
def barPay (c : Dev nD) (k : Fin 3) : sProp 𝕄 := iprop((∃ f, slotPts (sc k c) c fullShare f) ∗ reached ER (recvCell (sc k c) c) 0)
/-- What the arrival of slot `s` hands `c`: the slot with `s`'s final rows. -/
def recvPay (c s : Dev nD) : sProp 𝕄 := slotPts c s fullShare (buf m ρ s 7)
/-- What the completion of `c`'s `k`-th copy hands back: the third of its own slot it read from. -/
def sendPay (c : Dev nD) (k : Fin 3) : sProp 𝕄 := slotPts c c (shares3 fullShare k) (buf m ρ c 7)

omit [FloatOps F] in
instance barPay_storable (c : Dev nD) (k : Fin 3) : BI.Storable (upEmb : UEmb _ 𝕄) (barPay (F := F) c k) := by unfold barPay; infer_instance
instance recvPay_storable (c s : Dev nD) : BI.Storable (upEmb : UEmb _ 𝕄) (recvPay (F := F) m ρ c s) := by unfold recvPay; infer_instance
instance sendPay_storable (c : Dev nD) (k : Fin 3) : BI.Storable (upEmb : UEmb _ 𝕄) (sendPay (F := F) m ρ c k) := by unfold sendPay; infer_instance

/-- The duties of a semaphore by its purpose: a barrier has one from each peer, a send semaphore one, a receive semaphore
    one unless its slot is the device's own. -/
def kdDuties (c : Dev nD) : Kd → Finset (Fin 3)
  | .bar => Finset.univ
  | .snd _ => {0}
  | .rcv s => if s = c then ∅ else {0}
  | .other => ∅
def kdAmount : Kd → ℕ
  | .bar => 1
  | _ => N
def kdPay (c : Dev nD) : Kd → Fin 3 → sProp 𝕄
  | .bar, k => barPay c k
  | .snd k, _ => sendPay m ρ c k
  | .rcv s, _ => recvPay m ρ c s
  | .other, _ => iprop(emp)

/-- One round for every semaphore. -/
def Rd : Rounds.Schedule (GSem nD τ sig) (Fin 3) 𝕄 where
  duties g r := if r = 0 ∧ g.1.2 = .tc then kdDuties g.1.1 (tag g.2) else ∅
  unitless _ := False
  amount g _ _ := kdAmount (tag g.2)
  payload g _ d := kdPay m ρ g.1.1 (tag g.2) d
  amount_pos g _ _ _ := by
    generalize tag g.2 = t
    cases t
    · exact Nat.one_pos
    all_goals exact N_pos

instance kdPay_storable (c : Dev nD) (t : Kd) (d : Fin 3) : BI.Storable (upEmb : UEmb _ 𝕄) (kdPay (F := F) m ρ c t d) := by
  cases t <;> (unfold kdPay; infer_instance)
instance Rd_payload_storable (g : GSem nD τ sig) (r : ℕ) (d : Fin 3) : BI.Storable (upEmb : UEmb _ 𝕄) ((Rd (F := F) m ρ).payload g r d) :=
  kdPay_storable m ρ g.1.1 (tag g.2) d

section Sched

theorem duties_bar (c : Dev nD) : (Rd (F := F) m ρ).duties (barCell c) 0 = Finset.univ := by
  dsimp only [Rd]; rw [if_pos ⟨rfl, rfl⟩, tag_bar]; rfl
theorem duties_send (c : Dev nD) (k : Fin 3) : (Rd (F := F) m ρ).duties (sendCell c k) 0 = {0} := by
  dsimp only [Rd]; rw [if_pos ⟨rfl, rfl⟩, tag_send]; rfl
theorem duties_recv {c s : Dev nD} (h : s ≠ c) : (Rd (F := F) m ρ).duties (recvCell c s) 0 = {0} := by
  dsimp only [Rd]; rw [if_pos ⟨rfl, rfl⟩, tag_recv]; exact if_neg h
theorem duties_self (c : Dev nD) : (Rd (F := F) m ρ).duties (recvCell c c) 0 = ∅ := by
  dsimp only [Rd]; rw [if_pos ⟨rfl, rfl⟩, tag_recv]; exact if_pos rfl
theorem duties_later (g : GSem nD τ sig) : ∀ r, 1 ≤ r → (Rd (F := F) m ρ).duties g r = ∅ :=
  fun r hr => by dsimp only [Rd]; rw [if_neg fun h => by omega]
theorem duties_self_all (c : Dev nD) : ∀ r, 0 ≤ r → (Rd (F := F) m ρ).duties (recvCell c c) r = ∅ := fun r _ => by
  rcases Nat.eq_zero_or_pos r with rfl | h
  · exact duties_self m ρ c
  · exact duties_later m ρ _ r h

theorem amount_bar (c : Dev nD) (d : Fin 3) : (Rd (F := F) m ρ).amount (barCell c) 0 d = 1 := by dsimp only [Rd]; rw [tag_bar]; rfl
theorem amount_send (c : Dev nD) (k d : Fin 3) : (Rd (F := F) m ρ).amount (sendCell c k) 0 d = N := by dsimp only [Rd]; rw [tag_send]; rfl
theorem amount_recv (c s : Dev nD) (d : Fin 3) : (Rd (F := F) m ρ).amount (recvCell c s) 0 d = N := by dsimp only [Rd]; rw [tag_recv]; rfl

theorem expect_bar (c : Dev nD) : (Rd (F := F) m ρ).expect (barCell c) 0 = 3 := by
  unfold Schedule.expect Schedule.amountOf
  rw [duties_bar, Finset.sum_congr rfl fun d _ => amount_bar m ρ c d, Finset.sum_const, Finset.card_univ, Fintype.card_fin, smul_eq_mul]
theorem expect_send (c : Dev nD) (k : Fin 3) : (Rd (F := F) m ρ).expect (sendCell c k) 0 = N := by
  unfold Schedule.expect Schedule.amountOf; rw [duties_send, Finset.sum_singleton, amount_send]
theorem expect_recv {c s : Dev nD} (h : s ≠ c) : (Rd (F := F) m ρ).expect (recvCell c s) 0 = N := by
  unfold Schedule.expect Schedule.amountOf; rw [duties_recv m ρ h, Finset.sum_singleton, amount_recv]

theorem payload_bar (c : Dev nD) (k : Fin 3) : (Rd (F := F) m ρ).payload (barCell c) 0 k = barPay c k := by dsimp only [Rd]; rw [tag_bar]; rfl
theorem payload_send (c : Dev nD) (k d : Fin 3) : (Rd (F := F) m ρ).payload (sendCell c k) 0 d = sendPay m ρ c k := by dsimp only [Rd]; rw [tag_send]; rfl
theorem payload_recv (c s : Dev nD) (d : Fin 3) : (Rd (F := F) m ρ).payload (recvCell c s) 0 d = recvPay m ρ c s := by dsimp only [Rd]; rw [tag_recv]; rfl

/-- All a barrier wait brings: the three peers' payloads. -/
theorem rest_bar (c : Dev nD) : bigSep ((Rd (F := F) m ρ).duties (barCell c) 0 \ ∅) (fun d => (Rd (F := F) m ρ).payload (barCell c) 0 d)
    = iprop(barPay c 0 ∗ barPay c 1 ∗ barPay c 2) := by
  rw [Finset.sdiff_empty, duties_bar, bigSep_univ_eq_bigSepL [0, 1, 2] (by decide) (by decide), bigSepL_cons_cons, bigSepL_cons_cons, bigSepL_singleton,
    payload_bar, payload_bar, payload_bar]
  rfl
/-- What a wait on a send semaphore brings. -/
theorem rest_send (c : Dev nD) (k : Fin 3) : bigSep ((Rd (F := F) m ρ).duties (sendCell c k) 0 \ ∅) (fun d => (Rd (F := F) m ρ).payload (sendCell c k) 0 d)
    = sendPay m ρ c k := by
  rw [Finset.sdiff_empty, duties_send, bigSep_singleton, payload_send]
/-- What a wait on a receive semaphore brings. -/
theorem rest_recv {c s : Dev nD} (h : s ≠ c) : bigSep ((Rd (F := F) m ρ).duties (recvCell c s) 0 \ ∅) (fun d => (Rd (F := F) m ρ).payload (recvCell c s) 0 d)
    = recvPay m ρ c s := by
  rw [Finset.sdiff_empty, duties_recv m ρ h, bigSep_singleton, payload_recv]

end Sched

/-! ## What each device owes at launch, and the order of the waits -/

/-- Copies still owed after the barrier: to each peer's receive semaphore. -/
def OR (c : Dev nD) : CellTallies nD τ sig Unit :=
  (tallyAt (recvCell (pr 2 c) c) () N + tallyAt (recvCell (pr 1 c) c) () N) + tallyAt (recvCell (pr 0 c) c) () N
/-- Owed at launch: those, and one unit to each peer's barrier semaphore. -/
def O₀ (c : Dev nD) : CellTallies nD τ sig Unit :=
  ((OR c + tallyAt (barCell (pr 2 c)) () 1) + tallyAt (barCell (pr 1 c)) () 1) + tallyAt (barCell (pr 0 c)) () 1

def L (g : GSem nD τ sig) : Finset Unit := if g.1.2 = .tc then {()} else ∅
def kdLevel : Kd → ℕ
  | .bar => 1
  | .rcv _ => 2
  | _ => 0
/-- Barriers come before receive semaphores; everything else is lower. -/
def lv (g : GSem nD τ sig) (_ : Unit) : ℕ := kdLevel (tag g.2)

theorem L_of_ne (g : GSem nD τ sig) (h : g.1.2 ≠ .tc) : L g = ∅ := if_neg h
theorem L_tc (c : Dev nD) (sm : SemLoc sig) : L ((c : Thread nD τ), sm) = {()} := if_pos rfl
theorem lv_bar (c : Dev nD) : lv (barCell c) () = 1 := by unfold lv; rw [tag_bar]; rfl
theorem lv_recv (c s : Dev nD) : lv (recvCell c s) () = 2 := by unfold lv; rw [tag_recv]; rfl

theorem tally_pos {g g' : GSem nD τ sig} {u : Unit} {n : ℕ} (h : 0 < (tallyAt g' () n : CellTallies nD τ sig Unit) g u) : g = g' := by
  rw [tallyAt_apply] at h
  by_contra hn
  rw [if_neg (fun h' => hn h'.1)] at h
  exact Nat.lt_irrefl 0 h

theorem OR_pos {c : Dev nD} {g : GSem nD τ sig} {u : Unit} (h : 0 < OR c g u) : ∃ k, g = recvCell (pr k c) c := by
  unfold OR at h
  rw [Pi.add_apply, Finsupp.add_apply, Pi.add_apply, Finsupp.add_apply] at h
  by_contra hn
  rw [not_exists] at hn
  have h2 : (tallyAt (recvCell (pr 2 c) c) () N : CellTallies nD τ sig Unit) g u = 0 := Nat.eq_zero_of_not_pos fun h' => hn 2 (tally_pos h')
  have h1 : (tallyAt (recvCell (pr 1 c) c) () N : CellTallies nD τ sig Unit) g u = 0 := Nat.eq_zero_of_not_pos fun h' => hn 1 (tally_pos h')
  have h0 : (tallyAt (recvCell (pr 0 c) c) () N : CellTallies nD τ sig Unit) g u = 0 := Nat.eq_zero_of_not_pos fun h' => hn 0 (tally_pos h')
  rw [h2, h1, h0] at h
  exact Nat.lt_irrefl 0 h

theorem O₀_pos {c : Dev nD} {g : GSem nD τ sig} {u : Unit} (h : 0 < O₀ c g u) :
    (∃ k, g = recvCell (pr k c) c) ∨ ∃ k, g = barCell (pr k c) := by
  unfold O₀ at h
  rw [Pi.add_apply, Finsupp.add_apply, Pi.add_apply, Finsupp.add_apply, Pi.add_apply, Finsupp.add_apply] at h
  by_contra hn
  rw [not_or, not_exists, not_exists] at hn
  have h3 := Nat.eq_zero_of_not_pos fun h' => (OR_pos (c := c) (u := u) h').elim hn.1
  have h2 : (tallyAt (barCell (pr 2 c)) () 1 : CellTallies nD τ sig Unit) g u = 0 := Nat.eq_zero_of_not_pos fun h' => hn.2 2 (tally_pos h')
  have h1 : (tallyAt (barCell (pr 1 c)) () 1 : CellTallies nD τ sig Unit) g u = 0 := Nat.eq_zero_of_not_pos fun h' => hn.2 1 (tally_pos h')
  have h0 : (tallyAt (barCell (pr 0 c)) () 1 : CellTallies nD τ sig Unit) g u = 0 := Nat.eq_zero_of_not_pos fun h' => hn.2 0 (tally_pos h')
  rw [h3, h2, h1, h0] at h
  exact Nat.lt_irrefl 0 h

omit [FloatOps F] in
/-- A wait on a staging semaphore is allowed whatever the device still owes. -/
theorem mayWait_stage (c : Dev nD) (q : DmaSem sig) (hq : tag (.dma q) = .other) (O : CellTallies nD τ sig Unit) (hO : O = O₀ c ∨ O = OR c ∨ O = 0) :
    (levAts L lv : sProp 𝕄) ⊢ MayWait (c : Thread nD τ) (.dma q) () O := by
  have hlow : lv ((c : Thread nD τ), .dma q) () ≤ 0 := by unfold lv; rw [hq]; exact Nat.le_refl 0
  have key : ∀ {g : GSem nD τ sig} {u : Unit}, ((∃ k, g = recvCell (pr k c) c) ∨ ∃ k, g = barCell (pr k c)) → u ∈ L g ∧ 0 < lv g u := by
    rintro g u (⟨k, rfl⟩ | ⟨k, rfl⟩)
    · exact ⟨by rw [L_tc]; exact Finset.mem_singleton_self _, by rw [lv_recv]; decide⟩
    · exact ⟨by rw [L_tc]; exact Finset.mem_singleton_self _, by rw [lv_bar]; decide⟩
  rcases hO with rfl | rfl | rfl
  · exact MayOwe.of_cut (L := L) (lev := lv) 0 (fun p hp => by rw [Finset.mem_singleton.mp hp, L_tc]; exact Finset.mem_singleton_self _)
      (fun g u hg => (key (O₀_pos hg)).1) (fun p hp => by rw [Finset.mem_singleton.mp hp]; exact hlow) (fun g u hg => (key (O₀_pos hg)).2)
  · exact MayOwe.of_cut (L := L) (lev := lv) 0 (fun p hp => by rw [Finset.mem_singleton.mp hp, L_tc]; exact Finset.mem_singleton_self _)
      (fun g u hg => (key (.inl (OR_pos hg))).1) (fun p hp => by rw [Finset.mem_singleton.mp hp]; exact hlow) (fun g u hg => (key (.inl (OR_pos hg))).2)
  · rw [MayWait_zero]; iintro -; iempintro

omit [FloatOps F] in
/-- At its barrier wait a device owes copies only, which rank above barriers. -/
theorem mayWait_bar (c : Dev nD) : (levAts L lv : sProp 𝕄) ⊢ MayWait (c : Thread nD τ) (.reg barS) () (OR c) :=
  MayOwe.of_cut (L := L) (lev := lv) 1 (fun p hp => by rw [Finset.mem_singleton.mp hp, L_tc]; exact Finset.mem_singleton_self _)
    (fun g u hg => by obtain ⟨k, rfl⟩ := OR_pos hg; rw [L_tc]; exact Finset.mem_singleton_self _)
    (fun p hp => by rw [Finset.mem_singleton.mp hp]; exact Nat.le_of_eq (lv_bar c))
    (fun g u hg => by obtain ⟨k, rfl⟩ := OR_pos hg; rw [lv_recv]; decide)

/-! ## What a device holds between grid points -/

/-- Every semaphore's invariant and that it has reached its first round: shared by all devices. -/
def records (K : Dev nD × Fin 8 → ℕ) : sProp 𝕄 :=
  iprop((bigSep Finset.univ fun cj : Dev nD × Fin 8 => cellInv ER (Rd m ρ) (K cj) (kcell cj))
    ∗ bigSep Finset.univ fun cj : Dev nD × Fin 8 => reached ER (kcell cj) 0)
instance records_persistent (K : Dev nD × Fin 8 → ℕ) : BI.Persistent (records m ρ K) := by unfold records; infer_instance

/-- For the barrier: `c`'s position and the tokens of the three signals it owes. -/
def barG (c : Dev nD) : sProp 𝕄 :=
  iprop(atPos ER (barCell c) 0 ∅ 0
    ∗ dutyTok ER (barCell (pr 0 c)) 0 0 ∗ dutyTok ER (barCell (pr 1 c)) 0 1 ∗ dutyTok ER (barCell (pr 2 c)) 0 2)
/-- For the `k`-th copy and the arrival from the same peer: positions and tokens. -/
def lane (c : Dev nD) (k : Fin 3) : sProp 𝕄 :=
  iprop(atPos ER (sendCell c k) 0 ∅ 0 ∗ atPos ER (recvCell c (pr k c)) 0 ∅ 0
    ∗ dutyTok ER (sendCell c k) 0 0 ∗ dutyTok ER (recvCell (pr k c) c) 0 0)
def lanes (c : Dev nD) : sProp 𝕄 := iprop(lane c 0 ∗ lane c 1 ∗ lane c 2 ∗ atPos ER (recvCell c c) 0 ∅ 0)
def linear (c : Dev nD) : sProp 𝕄 := iprop(barG c ∗ lanes c)
/-- The credits of `c`'s three arrivals. -/
def rcred (c : Dev nD) : sProp 𝕄 :=
  iprop(cred (tallyAt (recvCell c (pr 0 c)) () N) ∗ cred (tallyAt (recvCell c (pr 1 c)) () N) ∗ cred (tallyAt (recvCell c (pr 2 c)) () N))

/-- What the launch gives `c` besides its exchange buffer. -/
def start (c : Dev nD) : sProp 𝕄 :=
  iprop((∃ K, records m ρ K ∗ linear c) ∗ cred (tallyAt (barCell c) () 3) ∗ rcred c ∗ levAts L lv)

/-- Before the first point. -/
def Φ₀ (c : Dev nD) : sProp 𝕄 := iprop(start m ρ c ∗ ∃ f : Scr F, ((c : Thread nD τ).loc cc0_scratch0) ↦{fullShare} f)
/-- Between points: the barrier is over; `c` holds its own slot with the rows of the points done, and slot `c` of
    each peer. -/
def Φmid (c : Dev nD) (n : ℕ) : sProp 𝕄 :=
  iprop((∃ K, records m ρ K) ∗ lanes c ∗ rcred c ∗ semVal (barCell c) 0
    ∗ slotPts c c fullShare (buf m ρ c n)
    ∗ (∃ f, slotPts (pr 0 c) c fullShare f) ∗ (∃ f, slotPts (pr 1 c) c fullShare f) ∗ (∃ f, slotPts (pr 2 c) c fullShare f))
/-- After the last point: every semaphore at zero again, the exchange buffer whole again. -/
def Φend (c : Dev nD) : sProp 𝕄 :=
  iprop(semVal (barCell c) 0 ∗ (semVal (sendCell c 0) 0 ∗ semVal (sendCell c 1) 0 ∗ semVal (sendCell c 2) 0)
    ∗ (bigSep Finset.univ fun s : Dev nD => semVal (recvCell c s) 0)
    ∗ ∃ f : Scr F, ((c : Thread nD τ).loc cc0_scratch0) ↦{fullShare} f)

/-! ## What the run leaves -/

/-- The four devices' final maxima, as the last point loads them; -/
def allV : S4x1x1024.Idx → Elt F .f32 := fun y => (acc m ρ ⟨(y 0).val, (y 0).isLt⟩ 7).1 (colIx ⟨(y 2).val, (y 2).isLt⟩)
/-- and their row indices. -/
def allI : S4x1x1024.Idx → Elt F .f32 := fun y => (acc m ρ ⟨(y 0).val, (y 0).isLt⟩ 7).2 (colIx ⟨(y 2).val, (y 2).isLt⟩)
/-- The position of column `j` in a row of shape 1x1024. -/
def rowIx (j : Fin 1024) : S1x1024.Idx := fun a => match a with
  | ⟨0, _⟩ => ⟨0, Nat.one_pos⟩
  | ⟨1, _⟩ => ⟨j.val, j.isLt⟩
/-- The result: row 0 the maxima over all rows of all devices, row 1 the row indices. The same on every device. -/
def outB : S2x1024.Idx → Elt F .f32 := fun i =>
  if (i 0).val = 0 then k0_pay12 (allV m ρ) (rowIx ⟨(i 1).val, (i 1).isLt⟩)
  else k0_pay13 (allV m ρ) (allI m ρ) (rowIx ⟨(i 1).val, (i 1).isLt⟩)

/-- The pipeline's proof data: the input window holds the point's block, the output window the result, and between
    points the device holds what was said above. -/
def dats (_ : Fin 1) (c : Dev nD) : Dat τ (Elt F) Unit ℕ UU ℕ cfg0 c where
  A w := (s₀ m ρ).mem ((cfg0.win w).arr.view.loc (c : Thread nD τ))
  after w t := match w with
    | ⟨0, _⟩ => tile m ρ c t
    | ⟨1, _⟩ => outB m ρ
  Φ t := if t.val = 0 then Φ₀ m ρ c else if t.val < 8 then Φmid m ρ c (t.val - 1) else Φend c
  q _ := fullShare
  owed t := if t.val = 0 then O₀ c else if t.val < 8 then OR c else 0

abbrev 𝒱₀ : Variants := Variants.none

end Cert.KernelIdeal.Exchange

end
-- ==== Proof.Steps.lean ====
/-
# The effects of the kernel body, one rule each

Each rule below takes one signal, wait, copy, load or store of the body, with its device, semaphore or row named as the
program computes it and an equation for what that is, and says what the device holds after it.
-/
module

public import proofs.«01_k».proof.Proof.Protocol

@[expose] public section

set_option maxRecDepth 16384

noncomputable section

namespace Cert.KernelIdeal.Exchange

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Ring (shares3 pointsTo_thirds)
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg) (K : Dev nD × Fin 8 → ℕ)

/-! ## Reading the shared records -/

theorem inv_at (cj : Dev nD × Fin 8) : (records m ρ K : sProp 𝕄) ⊢ cellInv ER (Rd m ρ) (K cj) (kcell cj) := by
  unfold records
  iintro ⟨#HI, -⟩
  iapply (show (bigSep Finset.univ fun cj : Dev nD × Fin 8 => (cellInv ER (Rd m ρ) (K cj) (kcell cj) : sProp 𝕄)) ⊢ cellInv ER (Rd m ρ) (K cj) (kcell cj) from
    bigSep_elim (Finset.mem_univ cj))
  iexact HI
theorem reached_at (cj : Dev nD × Fin 8) : (records m ρ K : sProp 𝕄) ⊢ reached ER (kcell cj) 0 := by
  unfold records
  iintro ⟨-, #HR⟩
  iapply (show (bigSep Finset.univ fun cj : Dev nD × Fin 8 => (reached ER (kcell cj) 0 : sProp 𝕄)) ⊢ reached ER (kcell cj) 0 from
    bigSep_elim (Finset.mem_univ cj))
  iexact HR

theorem inv_bar (c : Dev nD) : (records m ρ K : sProp 𝕄) ⊢ cellInv ER (Rd m ρ) (K (c, 0)) (barCell c) := inv_at m ρ K (c, 0)
theorem inv_send (c : Dev nD) (k : Fin 3) : (records m ρ K : sProp 𝕄) ⊢ cellInv ER (Rd m ρ) (K (c, sIx k)) (sendCell c k) := by
  have h := inv_at m ρ K (c, sIx k)
  rw [show kcell (c, sIx k) = sendCell c k from Prod.ext rfl (csem_sIx k)] at h
  exact h
theorem inv_recv (c s : Dev nD) : (records m ρ K : sProp 𝕄) ⊢ cellInv ER (Rd m ρ) (K (c, vIx s)) (recvCell c s) := by
  have h := inv_at m ρ K (c, vIx s)
  rw [show kcell (c, vIx s) = recvCell c s from Prod.ext rfl (csem_vIx s)] at h
  exact h
theorem reached_bar (c : Dev nD) : (records m ρ K : sProp 𝕄) ⊢ reached ER (barCell c) 0 := reached_at m ρ K (c, 0)
theorem reached_send (c : Dev nD) (k : Fin 3) : (records m ρ K : sProp 𝕄) ⊢ reached ER (sendCell c k) 0 := by
  have h := reached_at m ρ K (c, sIx k)
  rw [show kcell (c, sIx k) = sendCell c k from Prod.ext rfl (csem_sIx k)] at h
  exact h
theorem reached_recv (c s : Dev nD) : (records m ρ K : sProp 𝕄) ⊢ reached ER (recvCell c s) 0 := by
  have h := reached_at m ρ K (c, vIx s)
  rw [show kcell (c, vIx s) = recvCell c s from Prod.ext rfl (csem_vIx s)] at h
  exact h

/-! ## Barrier -/

/-- A core's rest of a program, as the rules below continue it. -/
abbrev run (c : Dev nD) {α : Type} (p : Prog (TpuEff nD τ sig (Elt F) Λ₀ .tc) α) (Q : α → sProp 𝕄) : sProp 𝕄 :=
  wp frame (wpE (defs₀ (F := F)) 𝒱₀ (c : Thread nD τ) none) Set.univ p Q

/-- The `k`-th signal: a unit on `pr k c`'s barrier, with `c`'s slot for it. -/
theorem step_signal (c n : Dev nD) (k : Fin 3) (hn : n.val = (pr k c).val) (O O' : CellTallies nD τ sig Unit)
    (hO : O' = O + tallyAt (barCell (pr k c)) () 1) (W : Waits sig Unit)
    {α : Type} {Q : α → sProp 𝕄} {kk : PUnit → Prog (TpuEff nD τ sig (Elt F) Λ₀ .tc) α} :
    iprop(records m ρ K ∗ owes (c : Thread nD τ) O' W ∗ dutyTok ER (barCell (pr k c)) 0 k ∗ ∃ f, slotPts c (pr k c) fullShare f)
      ⊢ iprop((owes (c : Thread nD τ) O W -∗ run c (kk ⟨⟩) Q)
        -∗ run c (.op (.semSignal ((n : Thread nD τ)) barS (1#32 : BitVec 32).toInt) kk) Q) := by
  obtain rfl : n = pr k c := Fin.ext hn
  iintro ⟨#HR, HO, Htok, Hs⟩ Hk
  iapply (Rounds.wp_signal 𝒱₀ ER (Rd m ρ) (c : Thread nD τ) none (dst := (pr k c : Thread nD τ)) (κ := K (pr k c, 0))
      (d := k) (by rw [duties_bar]; exact Finset.mem_univ _) ((amount_bar m ρ (pr k c) k).trans (by decide)) () O hO) $$ [HO Htok Hs]
  · isplitr; · iapply (inv_bar m ρ K (pr k c)); iexact HR
    isplitl [HO]; · iexact HO
    isplitl [Htok]; · iexact Htok
    isplitl [Hs]
    · rw [payload_bar]; unfold barPay; rw [sc_pr]
      isplitl [Hs]; · iexact Hs
      iapply (reached_recv m ρ K c (pr k c)); iexact HR
    · iapply (reached_bar m ρ K (pr k c)); iexact HR
  iexact Hk

/-- The barrier wait: slot `c` of each peer's exchange buffer arrives. -/
theorem step_bar_wait (c : Dev nD) (W : Waits sig Unit)
    {α : Type} {Q : α → sProp 𝕄} {kk : PUnit → Prog (TpuEff nD τ sig (Elt F) Λ₀ .tc) α} :
    iprop(records m ρ K ∗ levAts L lv ∗ cred (tallyAt (barCell c) () 3) ∗ owes (c : Thread nD τ) (OR c) W ∗ atPos ER (barCell c) 0 ∅ 0)
      ⊢ iprop(((owes (c : Thread nD τ) (OR c) (insert (SemLoc.reg barS, ()) W) ∗ semVal (barCell c) 0
            ∗ (∃ f, slotPts (pr 0 c) c fullShare f) ∗ (∃ f, slotPts (pr 1 c) c fullShare f) ∗ (∃ f, slotPts (pr 2 c) c fullShare f))
          -∗ run c (kk ⟨⟩) Q)
        -∗ run c (.op (.semWait barS (3#32 : BitVec 32).toInt) kk) Q) := by
  iintro ⟨#HR, #Hlev, Hcr, HO, Hat⟩ Hk
  iapply (Rounds.wp_wait_rest_token 𝒱₀ ER (Rd m ρ) (c : Thread nD τ) none (κ := K (c, 0))
      (wpE_semWait_eq 𝒱₀ (c : Thread nD τ) none Set.univ) (Set.mem_univ _) () (O := OR c) (W := W) (R := 0) (m := 0) (T := ∅)
      (by rw [expect_bar]; decide)) $$ [Hcr HO Hat]
  · isplitr; · iapply (inv_bar m ρ K c); iexact HR
    isplitl [Hcr]; · iexact Hcr
    isplitl [HO]; · iexact HO
    isplitr; · iapply (mayWait_bar c); iexact Hlev
    iexact Hat
  iintro ⟨HO, Hat, -, Hpay⟩
  ihave Hp := (Entails.of_eq (rest_bar m ρ c)) $$ Hpay
  imod (Rounds.cell_close ER (Rd m ρ) (Set.mem_univ (K (c, 0))) (fun h => h) (R := 0 + 1) (duties_later m ρ (barCell c))) $$ [Hat] with Hz
  · isplitr; · iapply (inv_bar m ρ K c); iexact HR
    iexact Hat
  unfold barPay
  rw [show sc 0 c = pr 2 c from by revert c; decide +kernel, show sc 1 c = pr 1 c from by revert c; decide +kernel,
    show sc 2 c = pr 0 c from by revert c; decide +kernel]
  icases Hp with ⟨⟨H2, -⟩, ⟨H1, -⟩, H0, -⟩
  iapply Hk
  isplitl [HO]; · iexact HO
  isplitl [Hz]; · iexact Hz
  isplitl [H0]; · iexact H0
  isplitl [H1] <;> iassumption

/-! ## Rows -/

/-- A load of a row of a held slot. -/
theorem step_load_row (c p s : Dev nD) (h : Fin 2) (off : Fin 3 → ℕ) (ho : off = ![s.val, h.val, 0])
    {inb : ∀ a, off a + S1x1x1024.size a ≤ S4x2x1024.size a}
    {hl : commM.view.LoadsAt (Rect.unit (s := S4x2x1024) off S1x1x1024.size inb).toLoadRect} (f : Scr F)
    {α : Type} {Q : α → sProp 𝕄} {kk : (S1x1x1024.Idx → Elt F .f32) → Prog (TpuEff nD τ sig (Elt F) Λ₀ .tc) α} :
    slotPts c s fullShare f
      ⊢ iprop((slotPts c s fullShare f -∗ run c (kk (commM.view.readAt (Elt F) (rowR s h).toLoadRect f)) Q)
        -∗ run c (.op (.load commM (Rect.unit (s := S4x2x1024) off S1x1x1024.size inb).toLoadRect hl) kk) Q) := by
  subst ho
  exact wp_load 𝒱₀ (c : Thread nD τ) none Set.univ (m := commM) (load_row_subset s h)
/-- A store to a row of a held slot. -/
theorem step_store_row (c s : Dev nD) (h : Fin 2) (off : Fin 3 → ℕ) (ho : off = ![s.val, h.val, 0])
    {inb : ∀ a, off a + S1x1x1024.size a ≤ S4x2x1024.size a} {w : S1x1x1024.Idx → Elt F .f32}
    {hx : (commM.access (Rect.unit (s := S4x2x1024) off S1x1x1024.size inb)).Stores Finset.univ} {hm} (f : Scr F)
    {α : Type} {Q : α → sProp 𝕄} {kk : PUnit → Prog (TpuEff nD τ sig (Elt F) Λ₀ .tc) α} :
    slotPts c s fullShare f
      ⊢ iprop((slotPts c s fullShare (wrRow s h f w) -∗ run c (kk ⟨⟩) Q)
        -∗ run c (.op (.store commM (Rect.unit (s := S4x2x1024) off S1x1x1024.size inb) w Finset.univ hx hm) kk) Q) := by
  subst ho
  exact wp_store 𝒱₀ (c : Thread nD τ) none Set.univ (m := commM) (r := rowR s h) (Mk := Finset.univ) (store_row_subset s h)

/-! ## Copies -/

/-- Whatever the target slot held, once the source slot is copied onto it it holds the source's contents. -/
theorem land_eq (s : Dev nD) (fd fs : Scr F) : ∀ i ∈ slotSet s,
    (slotM s).view.write (Elt F) fd ((slotM s).view.read (Elt F) fs) Finset.univ i = fs i := by
  intro i hi
  rw [View.write_read_eq_piecewise]
  have hi' : i ∈ (slotM s).view.setOn Finset.univ := by
    rw [show (slotM s).view.setOn Finset.univ = (slotM s).view.set from rfl, slotM_set]; exact hi
  exact Finset.piecewise_eq_of_mem _ _ _ hi'

/-- The `k`-th copy: a third of `c`'s own slot is lent to it, slot `c` of `pr k c` goes with it. -/
theorem step_copy (c n : Dev nD) (k : Fin 3) (hn : n.val = (pr k c).val)
    (off : Fin 3 → ℕ) (ho : off = ![c.val, 0, 0]) (off' : Fin 1 → ℕ) (ho' : off' = ![c.val])
    {inb : ∀ a, off a + S1x2x1024.size a ≤ S4x2x1024.size a} {inb' : ∀ a, off' a + S1.size a ≤ S4.size a}
    {hsc} {hsrc} {hdst} {hsem}
    (O O' : CellTallies nD τ sig Unit) (hO : O' = O + tallyAt (recvCell (pr k c) c) () N) (W : Waits sig Unit)
    {α : Type} {Q : α → sProp 𝕄} {kk : PUnit → Prog (TpuEff nD τ sig (Elt F) Λ₀ .tc) α} :
    iprop(records m ρ K ∗ slotPts c c (shares3 fullShare k) (buf m ρ c 7) ∗ (∃ f, slotPts (pr k c) c fullShare f)
        ∗ owes (c : Thread nD τ) O' W ∗ dutyTok ER (sendCell c k) 0 0 ∗ dutyTok ER (recvCell (pr k c) c) 0 0)
      ⊢ iprop(((cred (tallyAt (sendCell c k) () N) ∗ owes (c : Thread nD τ) O W) -∗ run c (kk ⟨⟩) Q)
        -∗ run c (.op (.enqueueDma
            ((commM.slice (Rect.unit (s := S4x2x1024) off S1x2x1024.size inb) (fun _ => rfl)).squeeze S2x1024 squeezes_S1x2x1024_S2x1024)
            (.remote (Dev.tc n : Thread nD τ)
              ((commM.slice (Rect.unit (s := S4x2x1024) off S1x2x1024.size inb) (fun _ => rfl)).squeeze S2x1024 squeezes_S1x2x1024_S2x1024)
              (.dma (sendS k)) hsc)
            (.dma ((cc0_scratch2.slice (Rect.unit (s := S4) off' S1.size inb')).squeeze S_ squeezes_S1_S_).sem) hsrc hdst hsem) kk) Q) := by
  obtain rfl : n = pr k c := Fin.ext hn
  subst ho ho'
  iintro ⟨#HR, Hs, ⟨%fd, Hd⟩, HO, Ht1, Ht2⟩ Hk
  unfold slotPts
  iapply (Rounds.wp_send_pointsTo 𝒱₀ ER (Rd m ρ) (c : Thread nD τ) none (c' := (pr k c : Thread nD τ)) (src := slotM c) (dst := slotM c)
      (sS := .dma (sendS k)) (sem := .dma (recvS c)) (q := shares3 fullShare k) (fs := buf m ρ c 7) (fd := fd)
      (κ₁ := K (c, sIx k)) (κ₂ := K (pr k c, vIx c)) (r₁ := 0) (r₂ := 0) (d₁ := 0) (d₂ := 0)
      (by rw [duties_send]; exact Finset.mem_singleton_self _) (by rw [duties_recv m ρ (fun h => pr_ne k c h.symm)]; exact Finset.mem_singleton_self _)
      () () N rfl (amount_send m ρ c k 0) (amount_recv m ρ (pr k c) c 0) O hO (W := W)
      (by rw [payload_send]; unfold sendPay slotPts; rw [slotM_set])
      (by rw [payload_recv]; unfold recvPay slotPts; rw [slotM_set]; exact Entails.of_eq (pointsTo_congr (land_eq c fd (buf m ρ c 7)))))
    $$ [Hs Hd HO Ht1 Ht2]
  · rw [slotM_set]
    isplitr; · iapply (inv_send m ρ K c k); iexact HR
    isplitr; · iapply (inv_recv m ρ K (pr k c) c); iexact HR
    isplitl [Hs]; · iexact Hs
    isplitl [Hd]; · iexact Hd
    isplitl [HO]; · iexact HO
    isplitl [Ht1]; · iexact Ht1
    isplitr; · iapply (reached_send m ρ K c k); iexact HR
    isplitl [Ht2]; · iexact Ht2
    iapply (reached_recv m ρ K (pr k c) c); iexact HR
  iexact Hk

/-- A wait for the arrival from `pr k c`: slot `pr k c` with that device's final rows, and the semaphore done with. -/
theorem step_recv_wait (c : Dev nD) (k : Fin 3) (off : Fin 3 → ℕ) (ho : off = ![(pr k c).val, 0, 0]) (off' : Fin 1 → ℕ) (ho' : off' = ![(pr k c).val])
    {inb : ∀ a, off a + S1x2x1024.size a ≤ S4x2x1024.size a} {inb' : ∀ a, off' a + S1.size a ≤ S4.size a} {hsrc} {hdst} (W : Waits sig Unit)
    {α : Type} {Q : α → sProp 𝕄} {kk : PUnit → Prog (TpuEff nD τ sig (Elt F) Λ₀ .tc) α} :
    iprop(records m ρ K ∗ cred (tallyAt (recvCell c (pr k c)) () N) ∗ owes (c : Thread nD τ) 0 W ∗ atPos ER (recvCell c (pr k c)) 0 ∅ 0)
      ⊢ iprop(((owes (c : Thread nD τ) 0 (insert (SemLoc.dma (recvS (pr k c)), ()) W) ∗ semVal (recvCell c (pr k c)) 0
            ∗ slotPts c (pr k c) fullShare (buf m ρ (pr k c) 7)) -∗ run c (kk ⟨⟩) Q)
        -∗ run c (.op (.waitDma2 ((cc0_scratch2.slice (Rect.unit (s := S4) off' S1.size inb')).squeeze S_ squeezes_S1_S_).sem
            ((commM.slice (Rect.unit (s := S4x2x1024) off S1x2x1024.size inb) (fun _ => rfl)).squeeze S2x1024 squeezes_S1x2x1024_S2x1024)
            ((commM.slice (Rect.unit (s := S4x2x1024) off S1x2x1024.size inb) (fun _ => rfl)).squeeze S2x1024 squeezes_S1x2x1024_S2x1024)
            hsrc hdst) kk) Q) := by
  subst ho ho'
  iintro ⟨#HR, Hcr, HO, Hat⟩ Hk
  iapply (Rounds.wp_wait_rest_token 𝒱₀ ER (Rd m ρ) (c : Thread nD τ) none (κ := K (c, vIx (pr k c)))
      (wpE_waitDma2_eq 𝒱₀ (c : Thread nD τ) none Set.univ) (Set.mem_univ _) () (O := 0) (W := W) (R := 0) (m := 0) (T := ∅)
      (by rw [Nat.zero_add, expect_recv m ρ (pr_ne k c)])) $$ [Hcr HO Hat]
  · isplitr; · iapply (inv_recv m ρ K c (pr k c)); iexact HR
    isplitl [Hcr]; · iexact Hcr
    isplitl [HO]; · iexact HO
    isplitr; · rw [MayWait_zero]; iempintro
    iexact Hat
  iintro ⟨HO, Hat, -, Hpay⟩
  ihave Hp := (Entails.of_eq ((rest_recv m ρ (pr_ne k c)).trans (show recvPay m ρ c (pr k c) = slotPts c (pr k c) fullShare (buf m ρ (pr k c) 7) from rfl))) $$ Hpay
  imod (Rounds.cell_close ER (Rd m ρ) (Set.mem_univ (K (c, vIx (pr k c)))) (fun h => h) (R := 0 + 1) (duties_later m ρ (recvCell c (pr k c)))) $$ [Hat] with Hz
  · isplitr; · iapply (inv_recv m ρ K c (pr k c)); iexact HR
    iexact Hat
  iapply Hk
  isplitl [HO]; · iexact HO
  isplitl [Hz]; · iexact Hz
  iexact Hp

/-- A wait for the `k`-th copy to have left: the lent third comes back, and the semaphore is done with. -/
theorem step_send_wait (c : Dev nD) (k : Fin 3) (off : Fin 3 → ℕ) (ho : off = ![c.val, 0, 0])
    {inb : ∀ a, off a + S1x2x1024.size a ≤ S4x2x1024.size a} {hsrc} {hdst} (W : Waits sig Unit)
    {α : Type} {Q : α → sProp 𝕄} {kk : PUnit → Prog (TpuEff nD τ sig (Elt F) Λ₀ .tc) α} :
    iprop(records m ρ K ∗ cred (tallyAt (sendCell c k) () N) ∗ owes (c : Thread nD τ) 0 W ∗ atPos ER (sendCell c k) 0 ∅ 0)
      ⊢ iprop(((owes (c : Thread nD τ) 0 (insert (SemLoc.dma (sendS k), ()) W) ∗ semVal (sendCell c k) 0
            ∗ slotPts c c (shares3 fullShare k) (buf m ρ c 7)) -∗ run c (kk ⟨⟩) Q)
        -∗ run c (.op (.waitDma2 (sendS k)
            ((commM.slice (Rect.unit (s := S4x2x1024) off S1x2x1024.size inb) (fun _ => rfl)).squeeze S2x1024 squeezes_S1x2x1024_S2x1024)
            ((commM.slice (Rect.unit (s := S4x2x1024) off S1x2x1024.size inb) (fun _ => rfl)).squeeze S2x1024 squeezes_S1x2x1024_S2x1024)
            hsrc hdst) kk) Q) := by
  subst ho
  iintro ⟨#HR, Hcr, HO, Hat⟩ Hk
  iapply (Rounds.wp_wait_rest_token 𝒱₀ ER (Rd m ρ) (c : Thread nD τ) none (κ := K (c, sIx k))
      (wpE_waitDma2_eq 𝒱₀ (c : Thread nD τ) none Set.univ) (Set.mem_univ _) () (O := 0) (W := W) (R := 0) (m := 0) (T := ∅)
      (by rw [Nat.zero_add, expect_send])) $$ [Hcr HO Hat]
  · isplitr; · iapply (inv_send m ρ K c k); iexact HR
    isplitl [Hcr]; · iexact Hcr
    isplitl [HO]; · iexact HO
    isplitr; · rw [MayWait_zero]; iempintro
    iexact Hat
  iintro ⟨HO, Hat, -, Hpay⟩
  ihave Hp := (Entails.of_eq ((rest_send m ρ c k).trans (show sendPay m ρ c k = slotPts c c (shares3 fullShare k) (buf m ρ c 7) from rfl))) $$ Hpay
  imod (Rounds.cell_close ER (Rd m ρ) (Set.mem_univ (K (c, sIx k))) (fun h => h) (R := 0 + 1) (duties_later m ρ (sendCell c k))) $$ [Hat] with Hz
  · isplitr; · iapply (inv_send m ρ K c k); iexact HR
    iexact Hat
  iapply Hk
  isplitl [HO]; · iexact HO
  isplitl [Hz]; · iexact Hz
  iexact Hp

/-- `c`'s own receive semaphore, never signalled, is at zero. -/
theorem close_self (c : Dev nD) : iprop(records m ρ K ∗ atPos ER (recvCell c c) 0 ∅ 0) ⊢ (|={Set.univ}=> semVal (recvCell c c) 0 : sProp 𝕄) := by
  iintro ⟨#HR, Hat⟩
  imod (Rounds.cell_close ER (Rd m ρ) (Set.mem_univ (K (c, vIx c))) (fun h => h) (R := 0) (duties_self_all m ρ c)) $$ [Hat] with Hz
  · isplitr; · iapply (inv_recv m ρ K c c); iexact HR
    iexact Hat
  imodintro
  iexact Hz

end Cert.KernelIdeal.Exchange

end
-- ==== Proof.Body.lean ====
/-
# One grid point of the kernel body

The body is run in its three situations: the first point (barrier, then the first rows are written), a point in between
(the rows are merged), and the last point (merge, exchange, combine). The staging buffers are any memrefs, so that one
statement serves every slot of the pipeline.
-/
module

public import proofs.«01_k».proof.Proof.Steps

@[expose] public section

set_option maxRecDepth 16384

noncomputable section

namespace Cert.KernelIdeal.Exchange

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Ring (shares3 pointsTo_thirds)
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg) (K : Dev nD × Fin 8 → ℕ)

/-! ## The staging buffers -/

/-- The load of the whole input block. -/
theorem step_load_x (c : Dev nD) (a : Memref sig .tc .vmem S512x1024 .f32) (X : S512x1024.Idx → Elt F .f32)
    {hl : a.view.LoadsAt (Rect.unit (s := S512x1024) ![0, 0] S512x1024.size inb_S512x1024_S512x1024_0_0).toLoadRect}
    {α : Type} {Q : α → sProp 𝕄} {kk : (S512x1024.Idx → Elt F .f32) → Prog (TpuEff nD τ sig (Elt F) Λ₀ .tc) α} :
    (owns (Ix := Unit) (Name := ℕ) (U := UU) (Lvl := ℕ) (c : Thread nD τ) a fullShare X : sProp 𝕄)
      ⊢ iprop((owns (c : Thread nD τ) a fullShare X -∗ run c (kk X) Q)
        -∗ run c (.op (.load a (Rect.unit (s := S512x1024) ![0, 0] S512x1024.size inb_S512x1024_S512x1024_0_0).toLoadRect hl) kk) Q) := by
  unfold owns
  iintro ⟨%f, %hf, H⟩ Hk
  have e : a.view.readAt (Elt F) (Rect.unit (s := S512x1024) ![0, 0] S512x1024.size inb_S512x1024_S512x1024_0_0).toLoadRect f = X := by
    funext y
    rw [View.readAt_apply, hf]
    congr 1
    funext b
    fin_cases b
    · exact Fin.ext (show 0 + 1 * (y 0).val = (y 0).val by omega)
    · exact Fin.ext (show 0 + 1 * (y 1).val = (y 1).val by omega)
  iapply (wp_load 𝒱₀ (c : Thread nD τ) none Set.univ (m := a) (S := a.view.set) (Finset.map_subset_map.mpr (Finset.subset_univ _))) $$ H
  iintro H
  rw [e]
  iapply Hk
  iexists f
  isplitr; · ipureintro; exact hf
  iexact H

theorem orow_inb : ∀ h : Fin 2, ∀ a, (![h.val, 0] : Fin 2 → Nat) a + S1x1024.size a ≤ S2x1024.size a := by decide +kernel
/-- Row `h` of the result block. -/
abbrev orowR (h : Fin 2) : Rect S2x1024 := Rect.unit (s := S2x1024) ![h.val, 0] S1x1024.size (orow_inb h)
/-- The result block with row `h` replaced. -/
def rowUpd (h : Fin 2) (w : S1x1024.Idx → Elt F .f32) (Y : S2x1024.Idx → Elt F .f32) : S2x1024.Idx → Elt F .f32 :=
  fun i => if (i 0).val = h.val then w (rowIx ⟨(i 1).val, (i 1).isLt⟩) else Y i

/-- A load of a row of the result block changes nothing. -/
theorem step_load_o (c : Dev nD) (a : Memref sig .tc .vmem S2x1024 .f32) (Y : S2x1024.Idx → Elt F .f32) (r : LoadRect S2x1024) {hl : a.view.LoadsAt r}
    {α : Type} {Q : α → sProp 𝕄} {kk : (r.shape.Idx → Elt F .f32) → Prog (TpuEff nD τ sig (Elt F) Λ₀ .tc) α} :
    (owns (Ix := Unit) (Name := ℕ) (U := UU) (Lvl := ℕ) (c : Thread nD τ) a fullShare Y : sProp 𝕄)
      ⊢ iprop((owns (c : Thread nD τ) a fullShare Y -∗ run c (kk (fun y => Y (r.idx y))) Q)
        -∗ run c (.op (.load a r hl) kk) Q) := by
  unfold owns
  iintro ⟨%f, %hf, H⟩ Hk
  have e : a.view.readAt (Elt F) r f = fun y => Y (r.idx y) := by
    funext y; rw [View.readAt_apply, hf]
  iapply (wp_load 𝒱₀ (c : Thread nD τ) none Set.univ (m := a) (S := a.view.set) (Finset.map_subset_map.mpr (Finset.subset_univ _))) $$ H
  iintro H
  rw [e]
  iapply Hk
  iexists f
  isplitr; · ipureintro; exact hf
  iexact H

/-- A store to row `h` of the result block. -/
theorem step_store_o (c : Dev nD) (a : Memref sig .tc .vmem S2x1024 .f32) (Y : S2x1024.Idx → Elt F .f32) (h : Fin 2) {w : S1x1024.Idx → Elt F .f32}
    {hx : (a.access (orowR h)).Stores Finset.univ} {hm}
    {α : Type} {Q : α → sProp 𝕄} {kk : PUnit → Prog (TpuEff nD τ sig (Elt F) Λ₀ .tc) α} :
    (owns (Ix := Unit) (Name := ℕ) (U := UU) (Lvl := ℕ) (c : Thread nD τ) a fullShare Y : sProp 𝕄)
      ⊢ iprop((owns (c : Thread nD τ) a fullShare (rowUpd h w Y) -∗ run c (kk ⟨⟩) Q)
        -∗ run c (.op (.store a (orowR h) w Finset.univ hx hm) kk) Q) := by
  unfold owns
  iintro ⟨%f, %hf, H⟩ Hk
  have e : a.view.read (Elt F) ((a.access (orowR h)).write (Elt F) f w Finset.univ) = rowUpd h w Y := by
    funext i
    unfold rowUpd
    have hi1 : (i 1).val < 1024 := (i 1).isLt
    by_cases hi : (i 0).val = h.val
    · rw [if_pos hi]
      have ei : (orowR h).emb (rowIx ⟨(i 1).val, hi1⟩) = i := by
        funext b
        fin_cases b
        · exact Fin.ext (show h.val + 1 * 0 = (i 0).val by omega)
        · exact Fin.ext (show 0 + 1 * (i 1).val = (i 1).val by omega)
      have := View.read_slice_write_emb (v := a.view) (Val := Elt F) (orowR h) f w (Finset.mem_univ (rowIx ⟨(i 1).val, hi1⟩))
      rw [ei] at this
      exact this
    · rw [if_neg hi, ← hf]
      refine View.read_slice_write_of_not_mem (v := a.view) (Val := Elt F) (orowR h) f w Finset.univ ?_
      intro hmem
      obtain ⟨y, -, hy⟩ := Finset.mem_map.mp hmem
      have h0 : (y 0).val < 1 := (y 0).isLt
      have : (i 0).val = h.val + 1 * (y 0).val := by rw [← hy]; rfl
      omega
  iapply (wp_store 𝒱₀ (c : Thread nD τ) none Set.univ (m := a) (S := a.view.set) (r := orowR h) (Mk := Finset.univ)
    (by rw [show (a.access (orowR h)).setOn Finset.univ = (a.view.slice (orowR h)).set from rfl, View.set_slice]
        exact Finset.map_subset_map.mpr (Finset.subset_univ _))) $$ H
  iintro H
  iapply Hk
  iexists _
  isplitr; · ipureintro; exact e
  iexact H

/-! ## The first point -/

set_option maxHeartbeats 1600000 in
/-- The first point: the barrier, then the block's maxima and row indices into the device's own slot. -/
theorem body_first (c : Dev nD) (i : grid0.Coords) (h1 : k0_cond1 i = 1#1) (h2 : k0_cond2 i = 1#1) (h3 : ¬ k0_cond3 i = 1#1) (h4 : ¬ k0_cond4 i = 1#1)
    (a : Memref sig .tc .vmem S512x1024 .f32) (ha : a.IsWhole) (o : Memref sig .tc .vmem S2x1024 .f32) (ho : o.IsWhole) (X : S512x1024.Idx → Elt F .f32)
    (W : Waits sig Unit) (f : Scr F) (Kt : PUnit → sProp 𝕄) :
    iprop((records m ρ K ∗ linear c ∗ cred (tallyAt (barCell c) () 3) ∗ rcred c ∗ levAts L lv
          ∗ (((c : Thread nD τ).loc cc0_scratch0) ↦{fullShare} f) ∗ owes (c : Thread nD τ) (O₀ c) W ∗ owns (c : Thread nD τ) a fullShare X)
        ∗ ((lanes c ∗ rcred c ∗ semVal (barCell c) 0 ∗ slotPts c c fullShare (slotBuf (k0_pay4 X) (k0_pay5 i c X))
            ∗ (∃ f, slotPts (pr 0 c) c fullShare f) ∗ (∃ f, slotPts (pr 1 c) c fullShare f) ∗ (∃ f, slotPts (pr 2 c) c fullShare f)
            ∗ (∃ W, owes (c : Thread nD τ) (OR c) W) ∗ owns (c : Thread nD τ) a fullShare X) -∗ Kt ⟨⟩))
      ⊢ run c (cc0_body i a ha o ho commM (Memref.isWhole_whole _) cc0_scratch1 cc0_scratch2) Kt := by
  unfold run
  simp only [cc0_body_eq_skeleton]; unfold cc0_body_skel
  simp only [k0_part1_eq_skeleton]; unfold k0_part1_skel
  simp only [dif_pos h1, dif_pos h2, dif_neg h3, dif_neg h4, semSignalWord, semWaitWord, Prog.lift, Prog.bind_op, Prog.bind_ret, Prog.pure_eq_ret, wp_deviceId]
  unfold linear barG
  iintro ⟨⟨#HR, ⟨⟨HatB, Ht0, Ht1, Ht2⟩, Hl⟩, HcB, Hrc, #Hlev, Hscr, HO, Hx⟩, Hk⟩
  ihave Hsl := (Entails.of_eq (whole_slots (F := F) c c f)) $$ Hscr
  icases Hsl with ⟨Hown, Hs0, Hs1, Hs2⟩
  iapply (step_signal m ρ K c _ 0 (dev1_eq c) _ (O₀ c) rfl W) $$ [HO Ht0 Hs0]
  · isplitr; · iexact HR
    isplitl [HO]; · iexact HO
    isplitl [Ht0]; · iexact Ht0
    iexists f; iexact Hs0
  iintro HO
  iapply (step_signal m ρ K c _ 1 (dev2_eq c) _ _ rfl W) $$ [HO Ht1 Hs1]
  · isplitr; · iexact HR
    isplitl [HO]; · iexact HO
    isplitl [Ht1]; · iexact Ht1
    iexists f; iexact Hs1
  iintro HO
  iapply (step_signal m ρ K c _ 2 (dev3_eq c) _ _ rfl W) $$ [HO Ht2 Hs2]
  · isplitr; · iexact HR
    isplitl [HO]; · iexact HO
    isplitl [Ht2]; · iexact Ht2
    iexists f; iexact Hs2
  iintro HO
  iapply (step_bar_wait m ρ K c W) $$ [HO HcB HatB]
  · isplitr; · iexact HR
    isplitr; · iexact Hlev
    isplitl [HcB]; · iexact HcB
    isplitl [HO] <;> iassumption
  iintro ⟨HO, Hz, Hp0, Hp1, Hp2⟩
  iapply (step_load_x c a X) $$ Hx; iintro Hx
  iapply (step_load_row c c c 0 _ (k0_off1_eq c) f) $$ Hown; iintro Hown
  iapply (step_store_row c c 0 _ (k0_off1_eq c) f) $$ Hown; iintro Hown
  iapply (step_load_row c c c 1 _ (k0_off2_eq c) _) $$ Hown; iintro Hown
  iapply (step_store_row c c 1 _ (k0_off2_eq c) _) $$ Hown; iintro Hown
  unfold run; rw [wp_ret]; imodintro
  iapply Hk
  ihave Hown := (Entails.of_eq (slotPts_congr c c fullShare (write_rows c f (k0_pay4 X) (k0_pay5 i c X)))) $$ Hown
  isplitl [Hl]; · iexact Hl
  isplitl [Hrc]; · iexact Hrc
  isplitl [Hz]; · iexact Hz
  isplitl [Hown]; · iexact Hown
  isplitl [Hp0]; · iexact Hp0
  isplitl [Hp1]; · iexact Hp1
  isplitl [Hp2]; · iexact Hp2
  isplitl [HO]; · iexists _; iexact HO
  iexact Hx

/-! ## A point in between -/

set_option maxHeartbeats 1600000 in
/-- A point in between: the block's maxima and row indices are merged into the device's own slot. -/
theorem body_mid (c : Dev nD) (i : grid0.Coords) (h1 : ¬ k0_cond1 i = 1#1) (h2 : ¬ k0_cond2 i = 1#1) (h3 : k0_cond3 i = 1#1) (h4 : ¬ k0_cond4 i = 1#1)
    (a : Memref sig .tc .vmem S512x1024 .f32) (ha : a.IsWhole) (o : Memref sig .tc .vmem S2x1024 .f32) (ho : o.IsWhole) (X : S512x1024.Idx → Elt F .f32)
    (V I : S1x1x1024.Idx → Elt F .f32) (Kt : PUnit → sProp 𝕄) :
    iprop((slotPts c c fullShare (slotBuf V I) ∗ owns (c : Thread nD τ) a fullShare X)
        ∗ ((slotPts c c fullShare (slotBuf (k0_pay8 X V) (k0_pay9 i c X V I)) ∗ owns (c : Thread nD τ) a fullShare X) -∗ Kt ⟨⟩))
      ⊢ run c (cc0_body i a ha o ho commM (Memref.isWhole_whole _) cc0_scratch1 cc0_scratch2) Kt := by
  unfold run
  simp only [cc0_body_eq_skeleton]; unfold cc0_body_skel
  simp only [dif_neg h1, dif_neg h2, dif_pos h3, dif_neg h4, Prog.lift, Prog.bind_op, Prog.bind_ret, Prog.pure_eq_ret, wp_deviceId]
  iintro ⟨⟨Hown, Hx⟩, Hk⟩
  iapply (step_load_x c a X) $$ Hx; iintro Hx
  iapply (step_load_row c c c 0 _ (k0_off3_eq c) _) $$ Hown; iintro Hown
  iapply (step_load_row c c c 1 _ (k0_off4_eq c) _) $$ Hown; iintro Hown
  rw [read_row0, read_row1]
  iapply (step_load_row c c c 0 _ (k0_off3_eq c) _) $$ Hown; iintro Hown
  iapply (step_store_row c c 0 _ (k0_off3_eq c) _) $$ Hown; iintro Hown
  iapply (step_load_row c c c 1 _ (k0_off4_eq c) _) $$ Hown; iintro Hown
  iapply (step_store_row c c 1 _ (k0_off4_eq c) _) $$ Hown; iintro Hown
  unfold run; rw [wp_ret]; imodintro
  iapply Hk
  ihave Hown := (Entails.of_eq (slotPts_congr c c fullShare (write_rows c _ (k0_pay8 X V) (k0_pay9 i c X V I)))) $$ Hown
  isplitl [Hown] <;> iassumption

/-! ## The last point -/

/-- The loads of the last point read the four devices' rows. -/
theorem read_all (h : Fin 2) (inb : ∀ a, (![0, h.val, 0] : Fin 3 → Nat) a + S4x1x1024.size a ≤ S4x2x1024.size a) :
    commM.view.readAt (Elt F) (Rect.unit (s := S4x2x1024) ![0, h.val, 0] S4x1x1024.size inb).toLoadRect (finBuf m ρ)
      = if h.val = 0 then allV m ρ else allI m ρ := by
  funext y
  show finBuf m ρ ((Rect.unit (s := S4x2x1024) ![0, h.val, 0] S4x1x1024.size inb).idx y) = _
  generalize hi : (Rect.unit (s := S4x2x1024) ![0, h.val, 0] S4x1x1024.size inb).idx y = j
  have y0 : (y 0).val < 4 := (y 0).isLt
  have y1 : (y 1).val < 1 := (y 1).isLt
  have y2 : (y 2).val < 1024 := (y 2).isLt
  have e0 : (j 0).val = (y 0).val := by rw [← hi]; show 0 + 1 * (y 0).val = _; omega
  have e1 : (j 1).val = h.val := by rw [← hi]; show h.val + 1 * (y 1).val = _; omega
  have e2 : (j 2).val = (y 2).val := by rw [← hi]; show 0 + 1 * (y 2).val = _; omega
  unfold finBuf buf slotBuf
  have ed : (⟨(j 0).val, (j 0).isLt⟩ : Dev nD) = ⟨(y 0).val, y0⟩ := Fin.ext e0
  have ec : colOf j = ⟨(y 2).val, y2⟩ := Fin.ext e2
  rw [ed, ec, e1]
  by_cases hh : h.val = 0
  · rw [if_pos hh, if_pos hh]; rfl
  · rw [if_neg hh, if_neg hh]; rfl

theorem read_allV : commM.view.readAt (Elt F) (Rect.unit (s := S4x2x1024) ![0, 0, 0] S4x1x1024.size inb_S4x2x1024_S4x1x1024_0_0_0).toLoadRect (finBuf m ρ) = allV m ρ :=
  read_all m ρ 0 inb_S4x2x1024_S4x1x1024_0_0_0
theorem read_allI : commM.view.readAt (Elt F) (Rect.unit (s := S4x2x1024) ![0, 1, 0] S4x1x1024.size inb_S4x2x1024_S4x1x1024_0_1_0).toLoadRect (finBuf m ρ) = allI m ρ :=
  read_all m ρ 1 inb_S4x2x1024_S4x1x1024_0_1_0

theorem rows_outB (Y : S2x1024.Idx → Elt F .f32) :
    rowUpd 1 (k0_pay13 (allV m ρ) (allI m ρ)) (rowUpd 0 (k0_pay12 (allV m ρ)) Y) = outB m ρ := by
  funext i
  have h0 : (i 0).val < 2 := (i 0).isLt
  unfold rowUpd outB
  by_cases hz : (i 0).val = 0
  · rw [if_neg (show ¬(i 0).val = ((1 : Fin 2) : ℕ) by rw [hz]; decide), if_pos (show (i 0).val = ((0 : Fin 2) : ℕ) from hz), if_pos hz]
  · rw [if_pos (show (i 0).val = ((1 : Fin 2) : ℕ) from (by show (i 0).val = 1; omega)), if_neg hz]

set_option maxHeartbeats 6400000 in
/-- The last point: merge, copy the own slot to every peer, wait for the peers' slots, combine. -/
theorem body_last (c : Dev nD) (i : grid0.Coords) (h1 : ¬ k0_cond1 i = 1#1) (h2 : ¬ k0_cond2 i = 1#1) (h3 : k0_cond3 i = 1#1) (h4 : k0_cond4 i = 1#1)
    (a : Memref sig .tc .vmem S512x1024 .f32) (ha : a.IsWhole) (o : Memref sig .tc .vmem S2x1024 .f32) (ho : o.IsWhole) (X : S512x1024.Idx → Elt F .f32)
    (V I : S1x1x1024.Idx → Elt F .f32) (hbuf : slotBuf (k0_pay8 X V) (k0_pay9 i c X V I) = buf m ρ c 7)
    (Y : S2x1024.Idx → Elt F .f32) (W : Waits sig Unit) (Kt : PUnit → sProp 𝕄) :
    iprop((records m ρ K ∗ lanes c ∗ rcred c ∗ slotPts c c fullShare (slotBuf V I)
          ∗ (∃ f, slotPts (pr 0 c) c fullShare f) ∗ (∃ f, slotPts (pr 1 c) c fullShare f) ∗ (∃ f, slotPts (pr 2 c) c fullShare f)
          ∗ owes (c : Thread nD τ) (OR c) W ∗ owns (c : Thread nD τ) a fullShare X ∗ owns (c : Thread nD τ) o fullShare Y)
        ∗ (((semVal (sendCell c 0) 0 ∗ semVal (sendCell c 1) 0 ∗ semVal (sendCell c 2) 0)
            ∗ (bigSep Finset.univ fun s : Dev nD => semVal (recvCell c s) 0)
            ∗ (∃ f : Scr F, ((c : Thread nD τ).loc cc0_scratch0) ↦{fullShare} f)
            ∗ (∃ W, owes (c : Thread nD τ) 0 W) ∗ owns (c : Thread nD τ) a fullShare X ∗ owns (c : Thread nD τ) o fullShare (outB m ρ)) -∗ Kt ⟨⟩))
      ⊢ run c (cc0_body i a ha o ho commM (Memref.isWhole_whole _) cc0_scratch1 cc0_scratch2) Kt := by
  unfold run
  simp only [cc0_body_eq_skeleton]; unfold cc0_body_skel
  simp only [k0_part2_eq_skeleton, k0_part3_eq_skeleton, k0_part4_eq_skeleton, k0_part5_eq_skeleton]
  unfold k0_part2_skel k0_part3_skel k0_part4_skel k0_part5_skel
  simp only [dif_neg h1, dif_neg h2, dif_pos h3, dif_pos h4, Prog.lift, Prog.bind_op, Prog.bind_ret, Prog.pure_eq_ret, wp_deviceId]
  unfold lanes lane rcred
  iintro ⟨⟨#HR, ⟨⟨HaS0, HaV0, HtS0, HtV0⟩, ⟨HaS1, HaV1, HtS1, HtV1⟩, ⟨HaS2, HaV2, HtS2, HtV2⟩, HaSelf⟩, ⟨Hc0, Hc1, Hc2⟩, Hown, Hp0, Hp1, Hp2, HO, Hx, Hout⟩, Hk⟩
  iapply (step_load_x c a X) $$ Hx; iintro Hx
  iapply (step_load_row c c c 0 _ (k0_off3_eq c) _) $$ Hown; iintro Hown
  iapply (step_load_row c c c 1 _ (k0_off4_eq c) _) $$ Hown; iintro Hown
  rw [read_row0, read_row1]
  iapply (step_load_row c c c 0 _ (k0_off3_eq c) _) $$ Hown; iintro Hown
  iapply (step_store_row c c 0 _ (k0_off3_eq c) _) $$ Hown; iintro Hown
  iapply (step_load_row c c c 1 _ (k0_off4_eq c) _) $$ Hown; iintro Hown
  iapply (step_store_row c c 1 _ (k0_off4_eq c) _) $$ Hown; iintro Hown
  ihave Hown := (Entails.of_eq ((slotPts_congr c c fullShare (write_rows c _ (k0_pay8 X V) (k0_pay9 i c X V I))).trans (by rw [hbuf]))) $$ Hown
  ihave Hth := (show (slotPts c c fullShare (buf m ρ c 7) : sProp 𝕄) ⊢ iprop(slotPts c c (shares3 fullShare 0) (buf m ρ c 7)
      ∗ slotPts c c (shares3 fullShare 1) (buf m ρ c 7) ∗ slotPts c c (shares3 fullShare 2) (buf m ρ c 7)) from (pointsTo_thirds fullShare _).1) $$ Hown
  icases Hth with ⟨Hq0, Hq1, Hq2⟩
  -- the three copies
  iapply (step_copy m ρ K c _ 0 (dev4_eq c) _ (k0_off6_eq c) _ (k0_off5_eq c) _ (OR c) rfl W) $$ [Hq0 Hp0 HO HtS0 HtV0]
  · isplitr; · iexact HR
    isplitl [Hq0]; · iexact Hq0
    isplitl [Hp0]; · iexact Hp0
    isplitl [HO]; · iexact HO
    isplitl [HtS0] <;> iassumption
  iintro ⟨HcS0, HO⟩
  iapply (step_copy m ρ K c _ 1 (dev5_eq c) _ (k0_off6_eq c) _ (k0_off5_eq c) (tallyAt (recvCell (pr 2 c) c) () N) _ rfl W) $$ [Hq1 Hp1 HO HtS1 HtV1]
  · isplitr; · iexact HR
    isplitl [Hq1]; · iexact Hq1
    isplitl [Hp1]; · iexact Hp1
    isplitl [HO]; · iexact HO
    isplitl [HtS1] <;> iassumption
  iintro ⟨HcS1, HO⟩
  iapply (step_copy m ρ K c _ 2 (dev6_eq c) _ (k0_off6_eq c) _ (k0_off5_eq c) 0 _ (zero_add _).symm W) $$ [Hq2 Hp2 HO HtS2 HtV2]
  · isplitr; · iexact HR
    isplitl [Hq2]; · iexact Hq2
    isplitl [Hp2]; · iexact Hp2
    isplitl [HO]; · iexact HO
    isplitl [HtS2] <;> iassumption
  iintro ⟨HcS2, HO⟩
  -- the three arrivals
  iapply (step_recv_wait m ρ K c 0 _ (off8_eq1 c) _ (off7_eq1 c) _) $$ [HO Hc0 HaV0]
  · isplitr; · iexact HR
    isplitl [Hc0]; · iexact Hc0
    isplitl [HO] <;> iassumption
  iintro ⟨HO, HzV0, Hr0⟩
  iapply (step_recv_wait m ρ K c 1 _ (off8_eq2 c) _ (off7_eq2 c) _) $$ [HO Hc1 HaV1]
  · isplitr; · iexact HR
    isplitl [Hc1]; · iexact Hc1
    isplitl [HO] <;> iassumption
  iintro ⟨HO, HzV1, Hr1⟩
  iapply (step_recv_wait m ρ K c 2 _ (off8_eq3 c) _ (off7_eq3 c) _) $$ [HO Hc2 HaV2]
  · isplitr; · iexact HR
    isplitl [Hc2]; · iexact Hc2
    isplitl [HO] <;> iassumption
  iintro ⟨HO, HzV2, Hr2⟩
  -- the three copies have left
  iapply (step_send_wait m ρ K c 0 _ (k0_off6_eq c) _) $$ [HO HcS0 HaS0]
  · isplitr; · iexact HR
    isplitl [HcS0]; · iexact HcS0
    isplitl [HO] <;> iassumption
  iintro ⟨HO, HzS0, Hq0⟩
  iapply (step_send_wait m ρ K c 1 _ (k0_off6_eq c) _) $$ [HO HcS1 HaS1]
  · isplitr; · iexact HR
    isplitl [HcS1]; · iexact HcS1
    isplitl [HO] <;> iassumption
  iintro ⟨HO, HzS1, Hq1⟩
  iapply (step_send_wait m ρ K c 2 _ (k0_off6_eq c) _) $$ [HO HcS2 HaS2]
  · isplitr; · iexact HR
    isplitl [HcS2]; · iexact HcS2
    isplitl [HO] <;> iassumption
  iintro ⟨HO, HzS2, Hq2⟩
  ihave Hown := (show iprop(slotPts c c (shares3 fullShare 0) (buf m ρ c 7)
      ∗ slotPts c c (shares3 fullShare 1) (buf m ρ c 7) ∗ slotPts c c (shares3 fullShare 2) (buf m ρ c 7)) ⊢ (slotPts c c fullShare (buf m ρ c 7) : sProp 𝕄)
      from (pointsTo_thirds fullShare _).2) $$ [Hq0 Hq1 Hq2]
  · isplitl [Hq0]; · iexact Hq0
    isplitl [Hq1] <;> iassumption
  ihave Hall := (show iprop(slotPts c c fullShare (buf m ρ c 7) ∗ slotPts c (pr 0 c) fullShare (buf m ρ (pr 0 c) 7)
      ∗ slotPts c (pr 1 c) fullShare (buf m ρ (pr 1 c) 7) ∗ slotPts c (pr 2 c) fullShare (buf m ρ (pr 2 c) 7))
      ⊢ (((c : Thread nD τ).loc cc0_scratch0) ↦{fullShare} finBuf m ρ : sProp 𝕄) from Entails.of_eq (by
        rw [whole_slots c c (finBuf m ρ), slotPts_congr c c fullShare (finBuf_slot m ρ c), slotPts_congr c (pr 0 c) fullShare (finBuf_slot m ρ (pr 0 c)),
          slotPts_congr c (pr 1 c) fullShare (finBuf_slot m ρ (pr 1 c)), slotPts_congr c (pr 2 c) fullShare (finBuf_slot m ρ (pr 2 c))])) $$ [Hown Hr0 Hr1 Hr2]
  · isplitl [Hown]; · iexact Hown
    isplitl [Hr0]; · iexact Hr0
    isplitl [Hr1] <;> iassumption
  imod (close_self m ρ K c) $$ [HaSelf] with HzSelf
  · isplitr; · iexact HR
    iexact HaSelf
  -- the combined result
  iapply (wp_load 𝒱₀ (c : Thread nD τ) none Set.univ (m := commM) (Finset.subset_univ _)) $$ Hall; iintro Hall
  iapply (wp_load 𝒱₀ (c : Thread nD τ) none Set.univ (m := commM) (Finset.subset_univ _)) $$ Hall; iintro Hall
  rw [read_allV, read_allI]
  iapply (step_load_o c o Y _) $$ Hout; iintro Hout
  iapply (step_store_o c o Y 0) $$ Hout; iintro Hout
  iapply (step_load_o c o _ _) $$ Hout; iintro Hout
  iapply (step_store_o c o _ 1) $$ Hout; iintro Hout
  rw [rows_outB]; unfold run; rw [wp_ret]; imodintro
  iapply Hk
  isplitl [HzS0 HzS1 HzS2]
  · isplitl [HzS0]; · iexact HzS0
    isplitl [HzS1] <;> iassumption
  isplitl [HzV0 HzV1 HzV2 HzSelf]
  · rw [bigSep_peers c]
    isplitl [HzSelf]; · iexact HzSelf
    isplitl [HzV0]; · iexact HzV0
    isplitl [HzV1] <;> iassumption
  isplitl [Hall]; · iexists _; iexact Hall
  isplitl [HO]; · iexists _; iexact HO
  isplitl [Hx] <;> iassumption

end Cert.KernelIdeal.Exchange

end
-- ==== Proof.Obligation.lean ====
/-
# The body's obligation to the pipeline

The three situations of the body, at the eight grid points, in the form the pipeline asks for.
-/
module

public import proofs.«01_k».proof.Proof.Body
public import proofs.«01_k».proof.Proof.Gen.KernelIdeal.Points

@[expose] public section

set_option maxRecDepth 16384

noncomputable section

namespace Cert.KernelIdeal.Exchange

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- The branches taken at the grid points: the first point, -/
theorem conds_first : ∀ t : Fin cfg0.N, t.val = 0 → k0_cond1 (grid0.coords t) = 1#1 ∧ k0_cond2 (grid0.coords t) = 1#1
    ∧ ¬ k0_cond3 (grid0.coords t) = 1#1 ∧ ¬ k0_cond4 (grid0.coords t) = 1#1 := by decide +kernel
/-- the points in between, -/
theorem conds_mid : ∀ t : Fin cfg0.N, t.val ≠ 0 → t.val ≠ 7 → ¬ k0_cond1 (grid0.coords t) = 1#1 ∧ ¬ k0_cond2 (grid0.coords t) = 1#1
    ∧ k0_cond3 (grid0.coords t) = 1#1 ∧ ¬ k0_cond4 (grid0.coords t) = 1#1 := by decide +kernel
/-- and the last point. -/
theorem conds_last : ∀ t : Fin cfg0.N, t.val = 7 → ¬ k0_cond1 (grid0.coords t) = 1#1 ∧ ¬ k0_cond2 (grid0.coords t) = 1#1
    ∧ k0_cond3 (grid0.coords t) = 1#1 ∧ k0_cond4 (grid0.coords t) = 1#1 := by decide +kernel

/-- The result window is idle before the last point, and only there. -/
theorem idle_early : ∀ t : Fin cfg0.N, t.val ≠ 7 → cfg0.idle 1 (cfg0.grid.coords t) = true := by decide +kernel
theorem idle_last : ∀ t : Fin cfg0.N, t.val = 7 → cfg0.idle 1 (cfg0.grid.coords t) = false := by decide +kernel
theorem noflush_early (t : Fin cfg0.N) (h : t.val ≠ 7) : (cfg0.win 1).flush t = false := by
  have h8 : t.val < 8 := lt_of_lt_of_eq t.isLt N_0
  rw [← Bool.not_eq_true]
  exact fun hf => h (by have := (flush0_1 t).mp hf; omega)

/-- Before every point the input window holds the point's block. -/
theorem before_x (c : Dev nD) (t : Fin cfg0.N) (d) : (dats m ρ 0 c).before 0 t d = tile m ρ c t :=
  ((dats m ρ 0 c).before_in_eq_fetched 0 rfl (fun _ => rfl) (fun _ _ _ => rfl) (fun t => by unfold Dat.blockOf; rfl) t d).trans
    (by unfold Dat.fetched Dat.blockOf; rfl)

/-- What the body needs at a point, and -/
def pre (c : Dev nD) (t : Fin cfg0.N) : sProp 𝕄 :=
  iprop((dats m ρ 0 c).Φ t.castSucc ∗ (dats m ρ 0 c).owesAt () t.castSucc
    ∗ owns (c : Thread nD τ) (st0_0 t) fullShare (tile m ρ c t)
    ∗ ∃ Y, owns (c : Thread nD τ) (st0_1 t) fullShare Y)
/-- what it leaves. -/
def post (c : Dev nD) (t : Fin cfg0.N) (Y : S2x1024.Idx → Elt F .f32) : sProp 𝕄 :=
  iprop((dats m ρ 0 c).Φ t.succ ∗ (dats m ρ 0 c).owesAt () t.succ
    ∗ owns (c : Thread nD τ) (st0_0 t) fullShare (tile m ρ c t)
    ∗ owns (c : Thread nD τ) (st0_1 t) fullShare Y)

theorem Phi_zero (c : Dev nD) (t : Fin (cfg0.N + 1)) (h : t.val = 0) : (dats m ρ 0 c).Φ t = Φ₀ m ρ c := by
  show (if t.val = 0 then Φ₀ m ρ c else if t.val < 8 then Φmid m ρ c (t.val - 1) else Φend c) = _
  rw [if_pos h]
theorem Phi_mid (c : Dev nD) (t : Fin (cfg0.N + 1)) (h : t.val ≠ 0) (h8 : t.val < 8) : (dats m ρ 0 c).Φ t = Φmid m ρ c (t.val - 1) := by
  show (if t.val = 0 then Φ₀ m ρ c else if t.val < 8 then Φmid m ρ c (t.val - 1) else Φend c) = _
  rw [if_neg h, if_pos h8]
theorem Phi_end (c : Dev nD) (t : Fin (cfg0.N + 1)) (h : t.val = 8) : (dats m ρ 0 c).Φ t = Φend c := by
  show (if t.val = 0 then Φ₀ m ρ c else if t.val < 8 then Φmid m ρ c (t.val - 1) else Φend c) = _
  rw [if_neg (by omega), if_neg (by omega)]
theorem owed_zero (c : Dev nD) (t : Fin (cfg0.N + 1)) (h : t.val = 0) : (dats m ρ 0 c).owed t = O₀ c := by
  show (if t.val = 0 then O₀ c else if t.val < 8 then OR c else 0) = _
  rw [if_pos h]
theorem owed_mid (c : Dev nD) (t : Fin (cfg0.N + 1)) (h : t.val ≠ 0) (h8 : t.val < 8) : (dats m ρ 0 c).owed t = OR c := by
  show (if t.val = 0 then O₀ c else if t.val < 8 then OR c else 0) = _
  rw [if_neg h, if_pos h8]
theorem owed_end (c : Dev nD) (t : Fin (cfg0.N + 1)) (h : t.val = 8) : (dats m ρ 0 c).owed t = 0 := by
  show (if t.val = 0 then O₀ c else if t.val < 8 then OR c else 0) = _
  rw [if_neg (by omega), if_neg (by omega)]

/-- The debts at a point, as the pipeline words them. -/
theorem owesAt_elim (c : Dev nD) (t : Fin (cfg0.N + 1)) (O : CellTallies nD τ sig Unit) (h : (dats m ρ 0 c).owed t = O) :
    ((dats m ρ 0 c).owesAt () t : sProp 𝕄) ⊢ iprop(∃ W, owes (c : Thread nD τ) O W) := by
  unfold Dat.owesAt Pipeline.owesWithin
  rw [h]
  iintro ⟨%W, %hW, H⟩
  iexists W; iexact H
theorem owesAt_intro (c : Dev nD) (t : Fin (cfg0.N + 1)) (O : CellTallies nD τ sig Unit) (h : (dats m ρ 0 c).owed t = O) :
    iprop(∃ W, owes (c : Thread nD τ) O W) ⊢ ((dats m ρ 0 c).owesAt () t : sProp 𝕄) := by
  unfold Dat.owesAt Pipeline.owesWithin
  rw [h]
  iintro ⟨%W, H⟩
  iexists W
  isplitr; · ipureintro; exact fun _ _ => Or.inl trivial
  iexact H

/-- The first point. -/
theorem at_first (c : Dev nD) (t : Fin cfg0.N) (ht : t.val = 0) (Y : S2x1024.Idx → Elt F .f32) (Kt : PUnit → sProp 𝕄) :
    iprop(((dats m ρ 0 c).Φ t.castSucc ∗ (dats m ρ 0 c).owesAt () t.castSucc
        ∗ owns (c : Thread nD τ) (st0_0 t) fullShare (tile m ρ c t) ∗ owns (c : Thread nD τ) (st0_1 t) fullShare Y)
        ∗ (post m ρ c t Y -∗ Kt ⟨⟩))
      ⊢ run c (bodyAt0 t) Kt := by
  obtain ⟨h1, h2, h3, h4⟩ := conds_first t ht
  have h8 : t.val < 8 := lt_of_lt_of_eq t.isLt N_0
  have hsv : t.succ.val = t.val + 1 := rfl
  have hpt : pt 0 = t := by rw [← ht, pt_val]
  unfold post
  rw [Phi_zero m ρ c t.castSucc ht, Phi_mid m ρ c t.succ (by omega) (by omega)]
  unfold Φ₀ start Φmid
  rw [show t.succ.val - 1 = 0 by omega]
  iintro ⟨⟨⟨⟨⟨%K, #HR, Hlin⟩, HcB, Hrc, #Hlev⟩, %f, Hscr⟩, Ho, Hx, Hout⟩, Hk⟩
  ihave HO := (owesAt_elim m ρ c t.castSucc (O₀ c) (owed_zero m ρ c _ ht)) $$ Ho
  icases HO with ⟨%W, HO⟩
  iapply (body_first m ρ K c (grid0.coords t) h1 h2 h3 h4 (st0_0 t) (hstage0_0 ((cfg0.slots t 0).cast nbuf0_0)) (st0_1 t)
    (hstage0_1 ((cfg0.slots t 1).cast nbuf0_1)) (tile m ρ c t) W f Kt)
  isplitl [Hlin HcB Hrc Hscr HO Hx]
  · isplitr; · iexact HR
    isplitl [Hlin]; · iexact Hlin
    isplitl [HcB]; · iexact HcB
    isplitl [Hrc]; · iexact Hrc
    isplitr; · iexact Hlev
    isplitl [Hscr]; · iexact Hscr
    isplitl [HO] <;> iassumption
  iintro ⟨Hl, Hrc, Hz, Hown, Hp0, Hp1, Hp2, HO, Hx⟩
  iapply Hk
  isplitl [Hl Hrc Hz Hown Hp0 Hp1 Hp2]
  · isplitr; · iexists K; iexact HR
    isplitl [Hl]; · iexact Hl
    isplitl [Hrc]; · iexact Hrc
    isplitl [Hz]; · iexact Hz
    isplitl [Hown]
    · rw [show buf m ρ c 0 = slotBuf (k0_pay4 (tile m ρ c t)) (k0_pay5 (grid0.coords t) c (tile m ρ c t)) by
        unfold buf acc; rw [hpt]]
      iexact Hown
    isplitl [Hp0]; · iexact Hp0
    isplitl [Hp1] <;> iassumption
  isplitl [HO]; · iapply (owesAt_intro m ρ c t.succ (OR c) (owed_mid m ρ c _ (by omega) (by omega))); iexact HO
  isplitl [Hx] <;> iassumption

/-- The slot after one more point. -/
theorem buf_succ (c : Dev nD) (t : Fin cfg0.N) (ht : t.val ≠ 0) :
    slotBuf (k0_pay8 (tile m ρ c t) (acc m ρ c (t.val - 1)).1)
        (k0_pay9 (grid0.coords t) c (tile m ρ c t) (acc m ρ c (t.val - 1)).1 (acc m ρ c (t.val - 1)).2)
      = buf m ρ c t.val := by
  obtain ⟨n, hn⟩ := Nat.exists_eq_succ_of_ne_zero ht
  have hpt : pt (n + 1) = t := by rw [← pt_val t, hn]
  rw [hn, Nat.succ_sub_one]
  unfold buf
  rw [acc, hpt]

/-- A point in between. -/
theorem at_mid (c : Dev nD) (t : Fin cfg0.N) (ht : t.val ≠ 0) (ht7 : t.val ≠ 7) (Y : S2x1024.Idx → Elt F .f32) (Kt : PUnit → sProp 𝕄) :
    iprop(((dats m ρ 0 c).Φ t.castSucc ∗ (dats m ρ 0 c).owesAt () t.castSucc
        ∗ owns (c : Thread nD τ) (st0_0 t) fullShare (tile m ρ c t) ∗ owns (c : Thread nD τ) (st0_1 t) fullShare Y)
        ∗ (post m ρ c t Y -∗ Kt ⟨⟩))
      ⊢ run c (bodyAt0 t) Kt := by
  obtain ⟨h1, h2, h3, h4⟩ := conds_mid t ht ht7
  have h8 : t.val < 8 := lt_of_lt_of_eq t.isLt N_0
  have hsv : t.succ.val = t.val + 1 := rfl
  have hcv : t.castSucc.val = t.val := rfl
  unfold post
  rw [Phi_mid m ρ c t.castSucc ht (by omega), Phi_mid m ρ c t.succ (by omega) (by omega)]
  unfold Φmid
  rw [show t.succ.val - 1 = t.val by omega, hcv, ← buf_succ m ρ c t ht]
  iintro ⟨⟨⟨#HR, Hl, Hrc, Hz, Hown, Hp0, Hp1, Hp2⟩, Ho, Hx, Hout⟩, Hk⟩
  ihave HO := (owesAt_elim m ρ c t.castSucc (OR c) (owed_mid m ρ c _ ht (by omega))) $$ Ho
  iapply (body_mid c (grid0.coords t) h1 h2 h3 h4 (st0_0 t) (hstage0_0 ((cfg0.slots t 0).cast nbuf0_0)) (st0_1 t)
    (hstage0_1 ((cfg0.slots t 1).cast nbuf0_1)) (tile m ρ c t) (acc m ρ c (t.val - 1)).1 (acc m ρ c (t.val - 1)).2 Kt)
  isplitl [Hown Hx]
  · isplitl [Hown]; · iexact Hown
    iexact Hx
  iintro ⟨Hown, Hx⟩
  iapply Hk
  isplitl [Hl Hrc Hz Hown Hp0 Hp1 Hp2]
  · isplitr; · iexact HR
    isplitl [Hl]; · iexact Hl
    isplitl [Hrc]; · iexact Hrc
    isplitl [Hz]; · iexact Hz
    isplitl [Hown]; · iexact Hown
    isplitl [Hp0]; · iexact Hp0
    isplitl [Hp1] <;> iassumption
  isplitl [HO]; · iapply (owesAt_intro m ρ c t.succ (OR c) (owed_mid m ρ c _ (by omega) (by omega))); iexact HO
  isplitl [Hx] <;> iassumption

/-- The last point. -/
theorem at_last (c : Dev nD) (t : Fin cfg0.N) (ht7 : t.val = 7) (Y : S2x1024.Idx → Elt F .f32) (Kt : PUnit → sProp 𝕄) :
    iprop(((dats m ρ 0 c).Φ t.castSucc ∗ (dats m ρ 0 c).owesAt () t.castSucc
        ∗ owns (c : Thread nD τ) (st0_0 t) fullShare (tile m ρ c t) ∗ owns (c : Thread nD τ) (st0_1 t) fullShare Y)
        ∗ (post m ρ c t (outB m ρ) -∗ Kt ⟨⟩))
      ⊢ run c (bodyAt0 t) Kt := by
  obtain ⟨h1, h2, h3, h4⟩ := conds_last t ht7
  have hsv : t.succ.val = t.val + 1 := rfl
  have hcv : t.castSucc.val = t.val := rfl
  have hb := buf_succ m ρ c t (by omega)
  unfold post
  rw [Phi_mid m ρ c t.castSucc (by omega) (by omega), Phi_end m ρ c t.succ (by omega)]
  unfold Φmid Φend
  rw [hcv]
  iintro ⟨⟨⟨⟨%K, #HR⟩, Hl, Hrc, Hz, Hown, Hp0, Hp1, Hp2⟩, Ho, Hx, Hout⟩, Hk⟩
  ihave HO := (owesAt_elim m ρ c t.castSucc (OR c) (owed_mid m ρ c _ (by omega) (by omega))) $$ Ho
  icases HO with ⟨%W, HO⟩
  iapply (body_last m ρ K c (grid0.coords t) h1 h2 h3 h4 (st0_0 t) (hstage0_0 ((cfg0.slots t 0).cast nbuf0_0)) (st0_1 t)
    (hstage0_1 ((cfg0.slots t 1).cast nbuf0_1)) (tile m ρ c t) (acc m ρ c (t.val - 1)).1 (acc m ρ c (t.val - 1)).2 (hb.trans (by rw [ht7])) Y W Kt)
  isplitl [Hl Hrc Hown Hp0 Hp1 Hp2 HO Hx Hout]
  · isplitr; · iexact HR
    isplitl [Hl]; · iexact Hl
    isplitl [Hrc]; · iexact Hrc
    isplitl [Hown]; · iexact Hown
    isplitl [Hp0]; · iexact Hp0
    isplitl [Hp1]; · iexact Hp1
    isplitl [Hp2]; · iexact Hp2
    isplitl [HO]; · iexact HO
    isplitl [Hx] <;> iassumption
  iintro ⟨HzS, HzV, Hscr, HO, Hx, Hout⟩
  iapply Hk
  isplitl [Hz HzS HzV Hscr]
  · isplitl [Hz]; · iexact Hz
    isplitl [HzS]; · iexact HzS
    isplitl [HzV] <;> iassumption
  isplitl [HO]; · iapply (owesAt_intro m ρ c t.succ 0 (owed_end m ρ c _ (by omega))); iexact HO
  isplitl [Hx] <;> iassumption

/-- The library's body obligation on every device. -/
theorem body_obligation (c : Dev nD) : BodyObligation (dats (F := F) m ρ 0 c) (defs₀ (F := F)) 𝒱₀ () Set.univ := fun t => by
  rw [bigSep_W0, bigSep_W0]
  show iprop((dats m ρ 0 c).Φ t.castSucc ∗ (dats m ρ 0 c).owesAt () t.castSucc
      ∗ (∃ d, owns (c : Thread nD τ) (st0_0 t) fullShare ((dats m ρ 0 c).before 0 t d))
      ∗ (∃ d, owns (c : Thread nD τ) (st0_1 t) fullShare ((dats m ρ 0 c).before 1 t d)))
    ⊢ run c (bodyAt0 t) fun _ => iprop((dats m ρ 0 c).Φ t.succ ∗ (dats m ρ 0 c).owesAt () t.succ
      ∗ owns (c : Thread nD τ) (st0_0 t) fullShare (tile m ρ c t)
      ∗ (match cfg0.idle 1 (cfg0.grid.coords t) with
        | true => match (cfg0.win 1).flush t with
          | false => iprop(∃ d, owns (c : Thread nD τ) (st0_1 t) fullShare ((dats m ρ 0 c).before 1 t d))
          | true => owns (c : Thread nD τ) (st0_1 t) fullShare (outB m ρ)
        | false => owns (c : Thread nD τ) (st0_1 t) fullShare (outB m ρ)))
  iintro ⟨HΦ, Ho, ⟨%d, Hx⟩, ⟨%d', Hout⟩⟩
  rw [before_x]
  by_cases h7 : t.val = 7
  · rw [idle_last t h7]
    iapply (at_last m ρ c t h7 ((dats m ρ 0 c).before 1 t d') _)
    isplitl
    · isplitl [HΦ]; · iexact HΦ
      isplitl [Ho]; · iexact Ho
      isplitl [Hx] <;> iassumption
    unfold post
    iintro H; iexact H
  · rw [idle_early t h7, noflush_early t h7]
    by_cases h0 : t.val = 0
    · iapply (at_first m ρ c t h0 ((dats m ρ 0 c).before 1 t d') _)
      isplitl
      · isplitl [HΦ]; · iexact HΦ
        isplitl [Ho]; · iexact Ho
        isplitl [Hx] <;> iassumption
      unfold post
      iintro ⟨H1, H2, H3, H4⟩
      isplitl [H1]; · iexact H1
      isplitl [H2]; · iexact H2
      isplitl [H3]; · iexact H3
      iexists d'; iexact H4
    · iapply (at_mid m ρ c t h0 h7 ((dats m ρ 0 c).before 1 t d') _)
      isplitl
      · isplitl [HΦ]; · iexact HΦ
        isplitl [Ho]; · iexact Ho
        isplitl [Hx] <;> iassumption
      unfold post
      iintro ⟨H1, H2, H3, H4⟩
      isplitl [H1]; · iexact H1
      isplitl [H2]; · iexact H2
      isplitl [H3]; · iexact H3
      iexists d'; iexact H4

end Cert.KernelIdeal.Exchange

end
-- ==== Proof.Run.lean ====
/-
# The launch

From any memory with all semaphores at zero, the four devices run to their end and leave the computed result, the
argument as it was, and all semaphores at zero again.
-/
module

public import proofs.«01_k».proof.Proof.Obligation
public import Idealize.ShloMosaic.Lib.Pipeline.CollectiveSegs

@[expose] public section

set_option maxRecDepth 16384

noncomputable section

namespace Cert.KernelIdeal.Exchange

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## Cells and tokens -/

theorem ownSemFacts : Pipeline.OwnSemFacts cfg0.spec osem := by decide

theorem share_eq (c : Dev nD) (w : Fin cfg0.W) : (dats m ρ 0 c).share w = fullShare := by unfold Dat.share; split <;> rfl

theorem kcell_injective : Function.Injective (kcell : Dev nD × Fin 8 → GSem nD τ sig) := by
  rintro ⟨c, j⟩ ⟨c', j'⟩ h
  have hc : c = c' := congrArg (fun g : GSem nD τ sig => g.1.1) h
  have hj : j = j' := csem_injective j j' (congrArg (fun g : GSem nD τ sig => g.2) h)
  rw [hc, hj]
/-- The protocol's semaphores on all devices. -/
def allCells : Finset (GSem nD τ sig) := Finset.univ.map ⟨kcell, kcell_injective⟩

/-- A device's own duties: for each `k` the barrier's `k`-th unit, the `k`-th send, and the arrival from the device whose
    `k`-th target it is. -/
abbrev duty (c : Dev nD) (kj : Fin 3 × Fin 3) : SemLoc sig × Fin 3 := match kj.2 with
  | 0 => (.reg barS, kj.1) | 1 => (.dma (sendS kj.1), 0) | 2 => (.dma (recvS (sc kj.1 c)), 0)
theorem duty_injective : ∀ (c : Dev nD) (x y : Fin 3 × Fin 3), duty c x = duty c y → x = y := by decide +kernel
abbrev tokOf (x : Dev nD × Fin 3 × Fin 3) : GSem nD τ sig × ℕ × Fin 3 := (((x.1 : Thread nD τ), (duty x.1 x.2).1), 0, (duty x.1 x.2).2)
theorem tokOf_injective : Function.Injective tokOf := by
  rintro ⟨c, x⟩ ⟨c', y⟩ h
  have hc : c = c' := congrArg (fun g : GSem nD τ sig × ℕ × Fin 3 => g.1.1.1) h
  subst hc
  rw [duty_injective c x y (congrArg (fun g : GSem nD τ sig × ℕ × Fin 3 => (g.1.2, g.2.2)) h)]
def allToks : Finset (GSem nD τ sig × ℕ × Fin 3) := Finset.univ.map ⟨tokOf, tokOf_injective⟩

def u₀ : UU :=
  (initOf (Pipeline.cells cfgs cellOf_inj) (Pipeline.launchToks cfgs cellOf_inj), initOf allCells allToks)

/-- The tokens of device `c`'s own semaphores. -/
def toks (c : Dev nD) : sProp 𝕄 :=
  bigSep Finset.univ fun k : Fin 3 => iprop(dutyTok ER (barCell c) 0 k ∗ dutyTok ER (sendCell c k) 0 0 ∗ dutyTok ER (recvCell c (sc k c)) 0 0)
/-- The tokens of the duties device `c` pays. -/
def payToks (c : Dev nD) : sProp 𝕄 :=
  bigSep Finset.univ fun k : Fin 3 => iprop(dutyTok ER (barCell (pr k c)) 0 k ∗ dutyTok ER (sendCell c k) 0 0 ∗ dutyTok ER (recvCell (pr k c) c) 0 0)

/-- What the launch deals device `c`. -/
def G (c : Dev nD) : sProp 𝕄 :=
  iprop((bigSep Finset.univ fun j : Fin 8 => roundState ER (Rd m ρ) (kcell (c, j)) 0)
    ∗ (bigSep Finset.univ fun j : Fin 8 => iprop(atPos ER (kcell (c, j)) 0 ∅ 0 ∗ reached ER (kcell (c, j)) 0)) ∗ toks c)
/-- What the devices make of it together. -/
def G' (c : Dev nD) : sProp 𝕄 := iprop(∃ K, records m ρ K ∗ linear c)

omit [FloatOps F] in
theorem bigSep_three (Φ : Fin 3 → sProp 𝕄) : bigSep Finset.univ Φ = iprop(Φ 0 ∗ Φ 1 ∗ Φ 2) := bigSep_univ_eq_bigSepL [0, 1, 2] (by decide) (by decide) Φ
omit [FloatOps F] in
theorem bigSep_eight (Φ : Fin 8 → sProp 𝕄) : bigSep Finset.univ Φ = iprop(Φ 0 ∗ Φ 1 ∗ Φ 2 ∗ Φ 3 ∗ Φ 4 ∗ Φ 5 ∗ Φ 6 ∗ Φ 7) :=
  bigSep_univ_eq_bigSepL [0, 1, 2, 3, 4, 5, 6, 7] (by decide) (by decide) Φ
omit [FloatOps F] in
theorem bigSep_devs (Φ : Dev nD → sProp 𝕄) : bigSep Finset.univ Φ = iprop(Φ (0 : Fin 4) ∗ Φ (1 : Fin 4) ∗ Φ (2 : Fin 4) ∗ Φ (3 : Fin 4)) :=
  bigSep_univ_eq_bigSepL [(0 : Fin 4), (1 : Fin 4), (2 : Fin 4), (3 : Fin 4)] (by decide) (by decide) Φ

theorem fund_all : BI.own (ER (initOf allCells allToks)) ⊢ (|==> bigSep Finset.univ (G m ρ) : sProp 𝕄) := by
  have hX (Φ : GSem nD τ sig → sProp 𝕄) : bigSep allCells Φ = bigSep Finset.univ fun c : Dev nD => bigSep Finset.univ fun k : Fin 8 => Φ (kcell (c, k)) := by
    unfold allCells; rw [bigSep_map, bigSep_univ_prod]; rfl
  have hT : bigSep allToks (fun x => (dutyTok ER x.1 x.2.1 x.2.2 : sProp 𝕄)) = bigSep Finset.univ fun c : Dev nD => toks c := by
    unfold allToks; rw [bigSep_map, bigSep_univ_prod]
    refine bigSep_congr fun c _ => ?_
    unfold toks
    rw [bigSep_univ_prod]
    exact bigSep_congr fun k _ => by rw [bigSep_three]; rfl
  iintro HX
  imod (Rounds.fund ER (Rd m ρ) allCells allToks) $$ HX with ⟨Hst, Hr, Hat, Htok⟩
  imodintro
  ihave Hst' := (Entails.of_eq (hX fun g => roundState ER (Rd m ρ) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

omit [FloatOps F] in
/-- The seven scratch semaphores; -/
theorem ownSems0_eq (c : Dev nD) : (Pipeline.ownSems0 (Ix := Unit) (Name := ℕ) (U := UU) (Lvl := ℕ) (Val := Elt F) (τ := τ) osem c : sProp 𝕄)
    = iprop(semVal (kcell (c, 1)) 0 ∗ semVal (kcell (c, 2)) 0 ∗ semVal (kcell (c, 3)) 0 ∗ semVal (kcell (c, 4)) 0 ∗ semVal (kcell (c, 5)) 0
      ∗ semVal (kcell (c, 6)) 0 ∗ semVal (kcell (c, 7)) 0) := by
  rw [Pipeline.ownSems0_eq_of_list c osem [0, 1, 2, 3, 4, 5, 6] (by decide) (by decide)]; rfl
omit [FloatOps F] in
/-- the barrier semaphore is the one left over. -/
theorem unscopedSems0_eq (c : Dev nD) : (unscopedSems0 c : sProp 𝕄) = semVal (barCell c) 0 := by
  unfold unscopedSems0; rw [bigSep_eq_bigSepL_of_eq [SemLoc.reg barS] (by decide) (by decide)]; rfl

omit [FloatOps F] in
theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : Fin 8 => semVal (kcell (c, k)) 0 : sProp 𝕄) := by
  rw [ownSems0_eq, unscopedSems0_eq, bigSep_eight]
  iintro ⟨HS, HB⟩
  isplitl [HB]; · iexact HB
  iexact HS

omit [FloatOps F] in
/-- A product over a device's eight semaphores, sorted by purpose. -/
theorem sort_cells (c : Dev nD) (Φ : GSem nD τ sig → sProp 𝕄) :
    (bigSep Finset.univ fun k : Fin 8 => Φ (kcell (c, k)))
      ⊢ iprop(Φ (barCell c) ∗ (Φ (sendCell c 0) ∗ Φ (sendCell c 1) ∗ Φ (sendCell c 2)) ∗ bigSep Finset.univ fun s : Dev nD => Φ (recvCell c s)) := by
  rw [bigSep_eight, bigSep_devs]
  iintro ⟨H0, H1, H2, H3, H4, H5, H6, H7⟩
  isplitl [H0]; · iexact H0
  isplitl [H1 H2 H3]
  · isplitl [H1]; · iexact H1
    isplitl [H2] <;> iassumption
  isplitl [H4]; · iexact H4
  isplitl [H5]; · iexact H5
  isplitl [H6] <;> iassumption

theorem core_alloc (c : Dev nD) :
    iprop(Pipeline.ownSems0 (Ix := Unit) (Name := ℕ) (U := UU) (Lvl := ℕ) (Val := Elt F) (τ := τ) osem c ∗ unscopedSems0 c ∗ G m ρ c)
      ⊢ |={Set.univ}=> iprop((bigSep Finset.univ fun k => iprop(∃ κ : ℕ, cellInv ER (Rd m ρ) κ (kcell (c, k))))
          ∗ (bigSep Finset.univ fun k => iprop(atPos ER (kcell (c, k)) 0 ∅ 0 ∗ reached ER (kcell (c, k)) 0)) ∗ toks c) := by
  unfold G
  iintro ⟨Hos, Hus, Hst, Hat, Htok⟩
  ihave Hv := (sems0_eq (F := F) c) $$ [Hos Hus]
  · isplitl [Hos] <;> iassumption
  imod (show iprop((bigSep Finset.univ fun k : Fin 8 => semVal (kcell (c, k)) 0) ∗ bigSep Finset.univ fun k : Fin 8 => roundState ER (Rd m ρ) (kcell (c, k)) 0)
      ⊢ (|={Set.univ}=> bigSep Finset.univ fun k => iprop(∃ κ : ℕ, cellInv ER (Rd m ρ) κ (kcell (c, k))) : sProp 𝕄) from by
        rw [← bigSep_sep']
        exact (bigSep_mono fun k _ => (Rounds.body_intro ER (Rd m ρ) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

omit [FloatOps F] in
/-- The tokens go to the devices that pay: the `k`-th ones `k + 1` steps back. -/
theorem toks_around : (bigSep Finset.univ fun c : Dev nD => (toks c : sProp 𝕄)) ⊢ bigSep Finset.univ fun c : Dev nD => payToks c := by
  unfold toks payToks
  rw [bigSep_univ_comm, bigSep_univ_comm (fun (c : Dev nD) (k : Fin 3) =>
    iprop(dutyTok ER (barCell (pr k c)) 0 k ∗ dutyTok ER (sendCell c k) 0 0 ∗ dutyTok ER (recvCell (pr k c) c) 0 0))]
  refine bigSep_mono fun k _ => ?_
  rw [bigSep_sep', bigSep_sep', bigSep_sep', bigSep_sep',
    bigSep_univ_equiv (rot k) (fun c : Dev nD => (dutyTok ER (barCell c) 0 k : sProp 𝕄)),
    bigSep_univ_equiv (rot k) (fun c : Dev nD => (dutyTok ER (recvCell c (sc k c)) 0 0 : sProp 𝕄))]
  simp only [show ∀ c, rot k c = pr k c from fun _ => rfl, sc_pr]
  exact Entails.of_eq (PROP := sProp 𝕄) rfl

omit [FloatOps F] in
/-- A device's positions and tokens, arranged as the body uses them. -/
theorem linear_intro (c : Dev nD) :
    iprop((bigSep Finset.univ fun k : Fin 8 => (atPos ER (kcell (c, k)) 0 ∅ 0 : sProp 𝕄)) ∗ payToks c) ⊢ linear c := by
  unfold payToks linear barG lanes lane
  rw [bigSep_three]
  iintro ⟨Hat, ⟨Hb0, Hs0, Hv0⟩, ⟨Hb1, Hs1, Hv1⟩, ⟨Hb2, Hs2, Hv2⟩⟩
  ihave H := (sort_cells (F := F) c fun g => atPos ER g 0 ∅ 0) $$ Hat
  icases H with ⟨HB, ⟨HS0, HS1, HS2⟩, HV⟩
  ihave HV := (Entails.of_eq (bigSep_peers (F := F) c fun s => atPos ER (recvCell c s) 0 ∅ 0)) $$ HV
  icases HV with ⟨HV, HV0, HV1, HV2⟩
  isplitl [HB Hb0 Hb1 Hb2]
  · isplitl [HB]; · iexact HB
    isplitl [Hb0]; · iexact Hb0
    isplitl [Hb1] <;> iassumption
  isplitl [HS0 HV0 Hs0 Hv0]
  · isplitl [HS0]; · iexact HS0
    isplitl [HV0]; · iexact HV0
    isplitl [Hs0] <;> iassumption
  isplitl [HS1 HV1 Hs1 Hv1]
  · isplitl [HS1]; · iexact HS1
    isplitl [HV1]; · iexact HV1
    isplitl [Hs1] <;> iassumption
  isplitl [HS2 HV2 Hs2 Hv2]
  · isplitl [HS2]; · iexact HS2
    isplitl [HV2]; · iexact HV2
    isplitl [Hs2] <;> iassumption
  iexact HV

omit [FloatOps F] in
theorem with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun k => iprop(∃ κ : ℕ, cellInv ER (Rd m ρ) κ (kcell (c, k))))
          ∗ (bigSep Finset.univ fun k => iprop(atPos ER (kcell (c, k)) 0 ∅ 0 ∗ reached ER (kcell (c, k)) 0)) ∗ toks c) : sProp 𝕄)
      ⊢ bigSep Finset.univ (G' m ρ) := by
  rw [bigSep_sep', bigSep_sep', ← bigSep_univ_prod (fun ck : Dev nD × Fin 8 => iprop(∃ κ : ℕ, cellInv ER (Rd m ρ) κ (kcell ck))),
    bigSep_congr (s := Finset.univ) (fun (c : Dev nD) _ => bigSep_sep' Finset.univ (fun k : Fin 8 => (atPos ER (kcell (c, k)) 0 ∅ 0 : sProp 𝕄)) (fun k => reached ER (kcell (c, k)) 0)),
    bigSep_sep', ← bigSep_univ_prod (fun ck : Dev nD × Fin 8 => (reached ER (kcell ck) 0 : sProp 𝕄))]
  iintro ⟨HI, ⟨Hat, #HR⟩, Htok⟩
  ihave HK := (BI.bigSep_exists_pi Finset.univ (fun (ck : Dev nD × Fin 8) (κ : ℕ) => (cellInv ER (Rd m ρ) κ (kcell ck) : sProp 𝕄))) $$ HI
  icases HK with ⟨%K, #HI⟩
  ihave Htk := (toks_around (F := F)) $$ Htok
  iapply (with_persistent (R := records m ρ K) (Φ := fun c : Dev nD => linear c) (fun c _ => by
    unfold G'; iintro ⟨H1, H2⟩; iexists K; isplitl [H1] <;> iassumption))
  isplitr
  · unfold records; isplitl; · iexact HI
    iexact HR
  · iapply ((Entails.of_eq (bigSep_sep' Finset.univ (fun c : Dev nD => bigSep Finset.univ fun k : Fin 8 => (atPos ER (kcell (c, k)) 0 ∅ 0 : sProp 𝕄)) payToks).symm).trans
      (bigSep_mono fun c _ => linear_intro c))
    isplitl [Hat]; · iexact Hat
    iexact Htk

/-- All devices set the protocol up together. -/
theorem glob : (bigSep Finset.univ fun c => iprop(Pipeline.ownSems0 (Ix := Unit) (Name := ℕ) (U := UU) (Lvl := ℕ) (Val := Elt F) (τ := τ) osem c ∗ unscopedSems0 c ∗ G m ρ c) : sProp 𝕄)
    ⊢ |={Set.univ}=> bigSep Finset.univ (G' m ρ) :=
  ((bigSep_mono fun c _ => core_alloc m ρ c).trans (bigSep_fupd _ _)).trans (BI.fupd_mono (regroup m ρ))

/-! ## The credit at launch -/

theorem bar_iff {a b : Dev nD} : Iff (barCell a = barCell b) (a = b) :=
  ⟨fun h => Fin.ext (congrArg (fun g : GSem nD τ sig => g.1.1.val) h), fun h => h ▸ rfl⟩
theorem recv_iff {a b s t : Dev nD} : Iff (recvCell a s = recvCell b t) (a = b ∧ s = t) :=
  ⟨fun h => ⟨Fin.ext (congrArg (fun g : GSem nD τ sig => g.1.1.val) h), by
    have := congrArg (fun g : GSem nD τ sig => tag g.2) h
    dsimp only at this
    rw [tag_recv, tag_recv] at this
    exact Kd.rcv.inj this⟩, fun h => by rw [h.1, h.2]⟩
theorem recv_ne_bar {s : Dev nD} : (SemLoc.dma (recvS s) : SemLoc sig) ≠ .reg barS := fun h => nomatch h

theorem at_bar (k : Fin 3) (d c : Dev nD) : (tallyAt (barCell (pr k d)) () 1 : CellTallies nD τ sig Unit) (barCell c) () = if d = sc k c then 1 else 0 := by
  rw [tallyAt_apply]
  by_cases h : d = sc k c
  · subst h; rw [pr_sc, if_pos ⟨rfl, rfl⟩, if_pos rfl]
  · rw [if_neg (fun ⟨h1, _⟩ => h (by rw [← sc_pr k d, bar_iff.mp h1])), if_neg h]
theorem OR_bar (d c : Dev nD) : OR d (barCell c) () = 0 := by
  by_contra hn
  obtain ⟨k, hk⟩ := OR_pos (Nat.pos_of_ne_zero hn)
  exact recv_ne_bar (congrArg Prod.snd hk).symm
/-- What device `d` owes device `c`'s barrier. -/
theorem owed_bar (d c : Dev nD) : O₀ d (barCell c) () = ((if d = sc 2 c then 1 else 0) + (if d = sc 1 c then 1 else 0)) + (if d = sc 0 c then 1 else 0) := by
  unfold O₀
  rw [Pi.add_apply, Finsupp.add_apply, Pi.add_apply, Finsupp.add_apply, Pi.add_apply, Finsupp.add_apply, OR_bar, at_bar, at_bar, at_bar, Nat.zero_add]

theorem at_recv (k : Fin 3) (d c s : Dev nD) :
    (tallyAt (recvCell (pr k d) d) () N : CellTallies nD τ sig Unit) (recvCell c s) () = if pr k d = c ∧ s = d then N else 0 := by
  rw [tallyAt_apply]
  by_cases h : pr k d = c ∧ s = d
  · rw [if_pos h, if_pos ⟨by rw [h.1, h.2], rfl⟩]
  · rw [if_neg h, if_neg (fun h' => h ⟨(recv_iff.mp h'.1).1.symm, (recv_iff.mp h'.1).2⟩)]
theorem bar_recv (a c s : Dev nD) : (tallyAt (barCell a) () 1 : CellTallies nD τ sig Unit) (recvCell c s) () = 0 := by
  rw [tallyAt_apply, if_neg (fun h => recv_ne_bar (congrArg Prod.snd h.1))]
theorem one_target : ∀ (k : Fin 3) (c : Dev nD), (pr 2 (pr k c) = c ∧ pr 1 (pr k c) ≠ c ∧ pr 0 (pr k c) ≠ c)
    ∨ (pr 2 (pr k c) ≠ c ∧ pr 1 (pr k c) = c ∧ pr 0 (pr k c) ≠ c) ∨ (pr 2 (pr k c) ≠ c ∧ pr 1 (pr k c) ≠ c ∧ pr 0 (pr k c) = c) := by decide +kernel
/-- What device `d` owes the receive semaphore of `c`'s slot for its `k`-th peer: the copy, if it is that peer. -/
theorem owed_recv (d c : Dev nD) (k : Fin 3) : O₀ d (recvCell c (pr k c)) () = if d = pr k c then N else 0 := by
  unfold O₀ OR
  rw [Pi.add_apply, Finsupp.add_apply, Pi.add_apply, Finsupp.add_apply, Pi.add_apply, Finsupp.add_apply, bar_recv, bar_recv, bar_recv,
    Pi.add_apply, Finsupp.add_apply, Pi.add_apply, Finsupp.add_apply, at_recv, at_recv, at_recv, Nat.add_zero]
  by_cases h : d = pr k c
  · subst h
    rw [if_pos (c := pr k c = pr k c) rfl]
    rcases one_target k c with ⟨h2, h1, h0⟩ | ⟨h2, h1, h0⟩ | ⟨h2, h1, h0⟩
    · rw [if_pos ⟨h2, rfl⟩, if_neg (fun h => h1 h.1), if_neg (fun h => h0 h.1), Nat.add_zero]
    · rw [if_neg (fun h => h2 h.1), if_pos ⟨h1, rfl⟩, if_neg (fun h => h0 h.1), Nat.zero_add, Nat.add_zero]
    · rw [if_neg (fun h => h2 h.1), if_neg (fun h => h1 h.1), if_pos ⟨h0, rfl⟩, Nat.zero_add]
  · rw [if_neg h, if_neg (fun h' => h h'.2.symm), if_neg (fun h' => h h'.2.symm), if_neg (fun h' => h h'.2.symm)]

theorem launch_bar (c : Dev nD) :
    tallyOn (barCell c) (launchCredit (Pipeline.owing O₀) 0 (barCell c)) = (tallyAt (barCell c) () 3 : CellTallies nD τ sig Unit) := by
  unfold tallyAt; refine congrArg _ (Finsupp.ext fun u => ?_); cases u
  rw [Pipeline.launchCredit_owing, Finsupp.single_eq_same, Finset.sum_congr rfl fun d _ => owed_bar d c, Finset.sum_add_distrib, Finset.sum_add_distrib,
    Finset.sum_ite_eq' Finset.univ (sc 2 c) fun _ => 1, Finset.sum_ite_eq' Finset.univ (sc 1 c) fun _ => 1, Finset.sum_ite_eq' Finset.univ (sc 0 c) fun _ => 1,
    if_pos (Finset.mem_univ _), if_pos (Finset.mem_univ _), if_pos (Finset.mem_univ _)]

theorem launch_recv (c : Dev nD) (k : Fin 3) :
    tallyOn (recvCell c (pr k c)) (launchCredit (Pipeline.owing O₀) 0 (recvCell c (pr k c))) = (tallyAt (recvCell c (pr k c)) () N : CellTallies nD τ sig Unit) := by
  unfold tallyAt; refine congrArg _ (Finsupp.ext fun u => ?_); cases u
  rw [Pipeline.launchCredit_owing, Finsupp.single_eq_same, Finset.sum_congr rfl fun d _ => owed_recv d c k, Finset.sum_ite_eq' Finset.univ (pr k c) fun _ => N,
    if_pos (Finset.mem_univ _)]

theorem recv_peers_ne : ∀ (c : Dev nD) (k k' : Fin 3), k ≠ k' → (SemLoc.dma (recvS (pr k c)) : SemLoc sig) ≠ .dma (recvS (pr k' c)) := fun c k k' h h' => by
  have := congrArg tag h'
  rw [tag_recv, tag_recv] at this
  exact h (pr_inj k k' c (Kd.rcv.inj this))

omit [FloatOps F] in
theorem creds (c : Dev nD) : (Pipeline.launchCred O₀ c : sProp 𝕄) ⊢ iprop(cred (tallyAt (barCell c) () 3) ∗ rcred c) := by
  unfold Pipeline.launchCred rcred
  rw [bigSep_univ_at _ (SemLoc.reg barS), launch_bar]
  refine sep_mono_right ?_
  rw [BI.bigSep_erase (i := SemLoc.dma (recvS (pr 0 c))) (Finset.mem_erase.mpr ⟨recv_ne_bar, Finset.mem_univ _⟩), launch_recv]
  refine sep_mono_right ?_
  rw [BI.bigSep_erase (i := SemLoc.dma (recvS (pr 1 c))) (Finset.mem_erase.mpr ⟨recv_peers_ne c 1 0 (by decide),
    Finset.mem_erase.mpr ⟨recv_ne_bar, Finset.mem_univ _⟩⟩), launch_recv]
  refine sep_mono_right ?_
  rw [← launch_recv]
  exact bigSep_elim (Finset.mem_erase.mpr ⟨recv_peers_ne c 2 1 (by decide), Finset.mem_erase.mpr ⟨recv_peers_ne c 2 0 (by decide),
    Finset.mem_erase.mpr ⟨recv_ne_bar, Finset.mem_univ _⟩⟩⟩)

/-! ## The side conditions -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m ρ c)
      ⊢ |={Set.univ}=> iprop(start m ρ c ∗ emp) := by
  iintro ⟨-, Hlev, Hcr, -, HG⟩
  ihave Hc := (creds (F := F) c) $$ Hcr
  icases Hc with ⟨H1, HN⟩
  imodintro
  unfold start G'
  isplitl
  · isplitl [HG]; · iexact HG
    isplitl [H1]; · iexact H1
    isplitl [HN]; · iexact HN
    iexact Hlev
  · iempintro

theorem enter (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [Phi_zero m ρ c 0 rfl, scopedRest0_eq]
  unfold Φ₀
  iintro ⟨Hs, -, Hr⟩
  isplitl [Hs]; · iexact Hs
  iexact Hr

theorem leave (c : Dev nD) :
    (dats m ρ 0 c).Φ (Fin.last cfg0.N) ⊢ iprop(unscopedSems0 c ∗ Pipeline.ownSems0 osem c ∗ Pipeline.scopedRest cfg0.spec c) := by
  rw [Phi_end m ρ c _ (show (Fin.last cfg0.N).val = 8 from N_0), scopedRest0_eq, ownSems0_eq, unscopedSems0_eq]
  unfold Φend
  rw [bigSep_devs]
  iintro ⟨HB, ⟨H0, H1, H2⟩, ⟨H3, H4, H5, H6⟩, Hr⟩
  isplitl [HB]; · iexact HB
  isplitl [H0 H1 H2 H3 H4 H5 H6]
  · isplitl [H0]; · iexact H0
    isplitl [H1]; · iexact H1
    isplitl [H2]; · iexact H2
    isplitl [H3]; · iexact H3
    isplitl [H4]; · iexact H4
    isplitl [H5] <;> iassumption
  iexact Hr

theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide +kernel) _ (by
      show (if t.val = 0 then O₀ c else if t.val < 8 then OR c else 0) = _ ∨ _ ∨ _
      by_cases h0 : t.val = 0
      · exact Or.inl (if_pos h0)
      · by_cases h8 : t.val < 8
        · exact Or.inr (Or.inl ((if_neg h0).trans (if_pos h8)))
        · exact Or.inr (Or.inr ((if_neg h0).trans (if_neg h8))))

/-! ## The run -/

def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

/-- From any memory with zero semaphores the four devices terminate, with both arrays at their computed contents and all
    semaphores at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := block_pos0) (harr := arr_whole0) (hstage := stage_whole0) (hshare := share_eq m ρ)
    (hdistinct := winFacts0.arr_inj)
    (O₀ := O₀) (howed₀ := fun c => owed_zero m ρ c 0 rfl) (howedN := fun c => owed_end m ρ c _ N_0)
    (L := L) (lv := lv) (hL := L_of_ne) (hwaits := waits m ρ)
    (G := G m ρ) (G' := G' m ρ) (u₀ := u₀)
    (hu₀ := by
      unfold u₀
      iintro Hu
      ihave H := (ownU_pair _ _) $$ Hu
      icases H with ⟨HP, HX⟩
      imod (fund_all m ρ) $$ HX with HG
      imodintro
      isplitl [HP] <;> iassumption)
    (hglob := glob m ρ)
    (hA := fun _ _ => rfl) (hpf := fun _ k => k.elim0)
    (X := start m ρ) (Y := fun c => unscopedSems0 c) (Z := fun _ => iprop(emp))
    (hX := start_intro m ρ) (hin := enter m ρ) (hout := leave m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- The argument after the run is what it was. -/
theorem finalA_arg (c : Dev nD) : finalA m ρ c (0 : Fin 2) = m ((c : Thread nD τ).loc main_arg0) :=
  (dats (F := F) m ρ 0 c).arrAt_in (0 : Fin 2) rfl _

end Cert.KernelIdeal.Exchange

end
-- ==== Proof.RefRun.lean ====
/-
# The reference's run

The reference is a straight line of host operations, so its result is the composition of them and it leaves the
argument as it was.
-/
module

public import proofs.«01_k».proof.Proof.Gen.ReferenceIdeal
public import Idealize.ShloMosaic.Lib.StableHlo.Run
public import Idealize.ShloMosaic.Lib.Quiescent

@[expose] public section

set_option maxRecDepth 16384

noncomputable section

namespace Cert.ReferenceIdeal.HostRun

open Cert.ReferenceIdeal Cert.ReferenceIdeal.Gen
open Idealize.ShloMosaic
open Idealize.ShloMosaic.TcCoe
open Idealize.ShloMosaic.StableHlo
open Idealize.SL.Sem

variable {F : FTy → Type} [FloatOps F]

/-- The column maxima of a whole array. -/
def colMax (x : S16384x1024.Idx → F .f32) : S1024.Idx → F .f32 :=
  Host.reduce FloatOps.maximumf x (constant S_ .f32 0xFF800000#32) reducesTo_S16384x1024_S1024_d0 h_S_

/-- The row at which each column has its maximum. -/
def colArg (x : S16384x1024.Idx → F .f32) : S1024.Idx → BitVec 32 := fun j =>
  (Host.argReduce reducer_argmax_f32_i32 x (iotaInDim S16384x1024 32 0) (constant S_ .f32 0xFF800000#32)
    (constantI S_ 32 0#32) reducesTo_S16384x1024_S1024_d0 h_S_ j).2

/-- Two rows, one above the other. -/
def stack (a b : S1x1024.Idx → F .f32) : S2x1024.Idx → F .f32 :=
  concatenate S2x1024 0 [⟨S1x1024, a⟩, ⟨S1x1024, b⟩] concatenates_S1x1024_S1x1024_S2x1024_d0

/-- The reference's result: the maxima over the rows at which they stand. -/
def out (x : S16384x1024.Idx → F .f32) : S2x1024.Idx → F .f32 :=
  stack (broadcastInDim S1x1024 ![1] bcast_S1024_S1x1024_1 (colMax x))
    (broadcastInDim S1x1024 ![1] bcast_S1024_S1x1024_1 (sitofp .f32 (colArg x)))

/-- The reference's operations, in order. -/
abbrev ops : List (HloOp τ sig (Elt F)) :=
  [ TRef.nullary main_call0.v0 (iotaInDim S16384x1024 32 0),
    TRef.nullary main_call0.cst (constant S_ .f32 0xFF800000#32),
    TRef.nullary main_call0.c (constantI S_ 32 0#32),
    TRef.quaternary (.of main_arg0) main_call0.v0 main_call0.cst main_call0.c main_call0.v1_0
      (fun x y u v j => (Host.argReduce reducer_argmax_f32_i32 x y u v reducesTo_S16384x1024_S1024_d0 h_S_ j).1),
    TRef.quaternary (.of main_arg0) main_call0.v0 main_call0.cst main_call0.c main_call0.v1_1
      (fun x y u v j => (Host.argReduce reducer_argmax_f32_i32 x y u v reducesTo_S16384x1024_S1024_d0 h_S_ j).2),
    unary main_v0 main_v1 (sitofp .f32),
    nullary main_cst (constant S_ .f32 0xFF800000#32),
    binary main_arg0 main_cst main_v2 (fun x v => Host.reduce FloatOps.maximumf x v reducesTo_S16384x1024_S1024_d0 h_S_),
    unary main_v2 main_v3 (broadcastInDim S1x1024 ![1] bcast_S1024_S1x1024_1),
    unary main_v1 main_v4 (broadcastInDim S1x1024 ![1] bcast_S1024_S1x1024_1),
    binary main_v3 main_v4 main_v5 stack ]

/-- The program is these operations one after another. -/
theorem main_ops (c : Dev nD) : main (F := F) c = seq ops := by
  simp only [main, fn_argmax.body, seq, bind_assoc, pure_bind]
  rfl

/-- What the result buffer holds after them. -/
theorem after_result (V : Valuation τ sig (Elt F)) :
    after ops V (main_v5 : DevRef τ sig) = out (V (main_arg0 : DevRef τ sig)) := by
  after_results_simp
  rfl

/-- None of them writes the argument. -/
theorem after_arg (V : Valuation τ sig (Elt F)) :
    after ops V (main_arg0 : DevRef τ sig) = V (main_arg0 : DevRef τ sig) := by
  simp only [after_cons, after_nil]
  rfl

/-- Every operation works on the TensorCore's buffers. -/
theorem ops_bufs : (ops : List (HloOp τ sig (Elt F))).Forall fun op => op.bufs ⊆ tcRefs τ sig :=
  ⟨nullary_bufs_sub .., nullary_bufs_sub .., nullary_bufs_sub .., quaternary_bufs_sub .., quaternary_bufs_sub ..,
    unary_bufs_sub .., nullary_bufs_sub .., binary_bufs_sub .., unary_bufs_sub .., unary_bufs_sub ..,
    binary_bufs_sub ..⟩

/-- The reference runs to its end with the result just named, the argument as it was, and no semaphore up. -/
theorem run_main (m : (ℓ : Loc nD τ sig) → Buf (Elt F) ℓ) (ρ : Dev nD → PrngReg) :
    θ_run defs (onTc (τ := τ) (main (F := F))) ⟨m, fun _ => 0, ρ⟩ fun r =>
      (∀ c : Dev nD, r.2.mem ((c : Thread nD τ).loc main_v5) = out (m ((c : Thread nD τ).loc main_arg0))
        ∧ r.2.mem ((c : Thread nD τ).loc main_arg0) = m ((c : Thread nD τ).loc main_arg0))
      ∧ r.2.sem = fun _ => 0 :=
  (θ_run defs _ _).mono
    (fun r h => ⟨fun c => ⟨(h c main_v5).trans (after_result _), (h c main_arg0).trans (after_arg _)⟩,
      sem_eq_zero_of_no_sems (by decide) _⟩)
    (run_seq (by decide) (by decide) defs main (fun _ => ops) main_ops (fun _ => ops_bufs) m ρ)

end Cert.ReferenceIdeal.HostRun

end
-- ==== Proof.Frames.lean ====
/-
# What the programs leave alone

Each program leaves its argument as it was and every semaphore at zero: the kernel, the kernel read at the extended
reals, and the reference, each also on the inputs the precondition admits.
-/
module

public import proofs.«01_k».proof.Defs
public import proofs.«01_k».proof.Proof.Run
public import proofs.«01_k».proof.Proof.RefRun
public import proofs.«01_k».proof.Proof.Gen.Kernel
public import proofs.«01_k».proof.Proof.Gen.Pre_no_tie_Kernel
public import proofs.«01_k».proof.Proof.Gen.Pre_no_tie_ReferenceIdeal

@[expose] public section

set_option maxRecDepth 16384

noncomputable section

namespace Cert.Proof

open Idealize.ShloMosaic Idealize.SL.Sem
open Idealize.ShloMosaic.TcCoe
open Cert.KernelIdeal.Exchange (run_main finalA_arg)

/-- The kernel's program, over any float values, leaves its argument and its semaphores alone. -/
theorem keeps {F : FTy → Type} [FloatOps F]
    (m : (ℓ : Loc Cert.KernelIdeal.nD Cert.KernelIdeal.τ Cert.KernelIdeal.sig) → Buf (Elt F) ℓ)
    (ρ : Dev Cert.KernelIdeal.nD → PrngReg) :
    θ_run Cert.KernelIdeal.defs (onTc (τ := Cert.KernelIdeal.τ) (Cert.KernelIdeal.main (F := F))) ⟨m, fun _ => 0, ρ⟩ fun r =>
      (∀ c : Dev Cert.KernelIdeal.nD, r.2.mem ((c.tc : Thread Cert.KernelIdeal.nD Cert.KernelIdeal.τ).loc Cert.KernelIdeal.main_arg0)
        = m ((c.tc : Thread Cert.KernelIdeal.nD Cert.KernelIdeal.τ).loc Cert.KernelIdeal.main_arg0))
      ∧ r.2.sem = fun _ => 0 :=
  (θ_run Cert.KernelIdeal.defs _ _).mono (fun _ h => ⟨fun c => (h.1 c (0 : Fin 2)).trans (finalA_arg m ρ c), h.2⟩)
    (run_main (F := F) m ρ)

/-- The two printed programs have the same body table: at its only label both run the same function. -/
theorem bodies_same : (Cert.Kernel.defs₀ (F := Bits)) = Cert.KernelIdeal.defs₀ (F := Bits) := by
  unfold Cert.Kernel.defs₀ Cert.KernelIdeal.defs₀
  refine congrArg Defs.onTc (funext fun l => funext fun a => ?_)
  match l, a with
  | ⟨0, _⟩, (t, s) => rfl
  | ⟨_ + 1, h⟩, _ => exact absurd h (Nat.not_lt.2 (Nat.le_add_left _ _))

/-- So they run the same. -/
theorem defs_same : (Cert.Kernel.defs (F := Bits)) = Cert.KernelIdeal.defs (F := Bits) :=
  congrArg (Pipeline.defs (Cert.KernelIdeal.pcfgs (F := Bits))) bodies_same

/-- The kernel's program, read at the machine's values, leaves its argument and its semaphores alone. -/
theorem keeps_bits
    (m : (ℓ : Loc Cert.Kernel.nD Cert.Kernel.τ Cert.Kernel.sig) → Buf (Elt Bits) ℓ) (ρ : Dev Cert.Kernel.nD → PrngReg) :
    θ_run Cert.Kernel.defs (onTc (τ := Cert.Kernel.τ) (Cert.Kernel.main (F := Bits))) ⟨m, fun _ => 0, ρ⟩ fun r =>
      (∀ c : Dev Cert.Kernel.nD, r.2.mem ((c.tc : Thread Cert.Kernel.nD Cert.Kernel.τ).loc Cert.Kernel.main_arg0)
        = m ((c.tc : Thread Cert.Kernel.nD Cert.Kernel.τ).loc Cert.Kernel.main_arg0))
      ∧ r.2.sem = fun _ => 0 := by
  rw [defs_same]
  exact keeps (F := Bits) m ρ

/-- The kernel on any launch memory. -/
theorem frame_kernel : Cert.quiescent_Kernel := fun m ρ _ => keeps_bits m ρ

/-- The kernel on the inputs without ties. -/
theorem frame_kernel_pre : Cert.quiescent_Kernel_pre_no_tie_Kernel := fun m ρ _ => keeps_bits m ρ

/-- The kernel over the extended reals. -/
theorem frame_kernelIdeal : Cert.quiescent_KernelIdeal := fun m ρ _ =>
  keeps (F := Ideal) m ρ

/-- The reference on any launch memory. -/
theorem frame_reference : Cert.quiescent_ReferenceIdeal := fun m ρ _ =>
  (θ_run Cert.ReferenceIdeal.defs _ _).mono (fun _ h => ⟨fun c => (h.1 c).2, h.2⟩)
    (Cert.ReferenceIdeal.HostRun.run_main (F := Ideal) m ρ)

/-- The reference on the inputs without ties. -/
theorem frame_reference_pre : Cert.quiescent_ReferenceIdeal_pre_no_tie_ReferenceIdeal := fun m ρ _ =>
  (θ_run Cert.ReferenceIdeal.defs _ _).mono (fun _ h => ⟨fun c => (h.1 c).2, h.2⟩)
    (Cert.ReferenceIdeal.HostRun.run_main (F := Ideal) m ρ)

end Cert.Proof

end
-- ==== Proof.Argmax.lean ====
/-
# First positions of a maximum

The mathematics the two programs share, about one column of extended reals indexed by the row number: the first row of a
range at which the column is greatest, how two neighbouring ranges combine, how four do at once, and a fold that finds
it.
-/
module

public import Idealize.ShloMosaic.PureOps.Ideal.Laws

@[expose] public section

noncomputable section

namespace Argmax

/-- Row `r` is the first of the rows from `lo` up to `hi` at which `f` is greatest, and `v` is its value there. -/
structure IsFirst (f : ℕ → EReal) (lo hi r : ℕ) (v : EReal) : Prop where
  lo_le : lo ≤ r
  lt_hi : r < hi
  val : f r = v
  le : ∀ k, lo ≤ k → k < hi → f k ≤ v
  lt : ∀ k, lo ≤ k → k < r → f k < v

/-- There is only one such row and one such value. -/
theorem IsFirst.unique {f : ℕ → EReal} {lo hi r r' : ℕ} {v v' : EReal} (h : IsFirst f lo hi r v)
    (h' : IsFirst f lo hi r' v') : r = r' ∧ v = v' := by
  have hv : v = v' := le_antisymm (h.val ▸ h'.le r h.lo_le h.lt_hi) (h'.val ▸ h.le r' h'.lo_le h'.lt_hi)
  refine ⟨?_, hv⟩
  rcases lt_trichotomy r r' with hr | hr | hr
  · exact absurd (h.val.trans hv) (h'.lt r h.lo_le hr).ne
  · exact hr
  · exact absurd (h'.val.trans hv.symm) (h.lt r' h'.lo_le hr).ne

/-- Two neighbouring ranges: the later one counts only where it is strictly greater. -/
theorem IsFirst.merge {f : ℕ → EReal} {lo mid hi r r' : ℕ} {v v' : EReal} (h : IsFirst f lo mid r v)
    (h' : IsFirst f mid hi r' v') :
    IsFirst f lo hi (if v < v' then r' else r) (if v < v' then v' else v) := by
  have hm : lo ≤ mid := h.lo_le.trans h.lt_hi.le
  have hm' : mid ≤ hi := h'.lo_le.trans h'.lt_hi.le
  by_cases hv : v < v'
  · rw [if_pos hv, if_pos hv]
    refine ⟨hm.trans h'.lo_le, h'.lt_hi, h'.val, fun k h1 h2 => ?_, fun k h1 h2 => ?_⟩
    · by_cases hk : k < mid
      · exact (h.le k h1 hk).trans hv.le
      · exact h'.le k (not_lt.mp hk) h2
    · by_cases hk : k < mid
      · exact (h.le k h1 hk).trans_lt hv
      · exact h'.lt k (not_lt.mp hk) h2
  · rw [if_neg hv, if_neg hv]
    refine ⟨h.lo_le, h.lt_hi.trans_le hm', h.val, fun k h1 h2 => ?_, fun k h1 h2 => h.lt k h1 h2⟩
    by_cases hk : k < mid
    · exact h.le k h1 hk
    · exact (h'.le k (not_lt.mp hk) h2).trans (not_lt.mp hv)

/-- Several ranges of equal length side by side: the greatest of their values, and the least of the rows that reach
    it, where a range that does not reach it offers a row beyond the end. -/
theorem isFirst_of_parts {f : ℕ → EReal} {n L big : ℕ} (hb : n * L ≤ big) (r : Fin n → ℕ) (v : Fin n → EReal)
    (h : ∀ c : Fin n, IsFirst f (c.val * L) (c.val * L + L) (r c) (v c)) (best : EReal) (hle : ∀ c, v c ≤ best)
    (hmem : ∃ c, v c = best) (q : ℕ) (hq : ∀ c, q ≤ if v c = best then r c else big)
    (hqm : ∃ c, q = if v c = best then r c else big) : IsFirst f 0 (n * L) q best := by
  have hpart : ∀ c : Fin n, c.val * L + L ≤ n * L := fun c => by
    have := Nat.mul_le_mul_right L c.isLt
    rwa [Nat.succ_mul] at this
  obtain ⟨c₁, hc₁⟩ := hmem
  have hq₁ : q < n * L := by
    have h1 := hq c₁
    rw [if_pos hc₁] at h1
    exact h1.trans_lt ((h c₁).lt_hi.trans_le (hpart c₁))
  obtain ⟨c₀, hc₀⟩ := hqm
  by_cases hv : v c₀ = best
  swap
  · rw [if_neg hv] at hc₀
    omega
  rw [if_pos hv] at hc₀
  subst hc₀
  have hwhere : ∀ k, k < n * L → ∃ c : Fin n, c.val * L ≤ k ∧ k < c.val * L + L := fun k hk => by
    have hL : 0 < L := Nat.pos_of_ne_zero (by rintro rfl; simp at hk)
    refine ⟨⟨k / L, Nat.div_lt_of_lt_mul (by rwa [mul_comm] at hk)⟩, Nat.div_mul_le_self k L, ?_⟩
    have h1 := Nat.div_add_mod k L
    have h2 := Nat.mod_lt k hL
    rw [mul_comm] at h1
    show k < k / L * L + L
    omega
  have hall : ∀ k, k < n * L → f k ≤ best := fun k hk => by
    obtain ⟨c, hc1, hc2⟩ := hwhere k hk
    exact ((h c).le k hc1 hc2).trans (hle c)
  refine ⟨Nat.zero_le _, hq₁, (h c₀).val.trans hv, fun k _ hk => hall k hk, fun k _ hk => ?_⟩
  refine lt_of_le_of_ne (hall k (hk.trans hq₁)) fun he => ?_
  obtain ⟨c, hc1, hc2⟩ := hwhere k (hk.trans hq₁)
  have hvc : v c = best := le_antisymm (hle c) (he ▸ (h c).le k hc1 hc2)
  have h1 := hq c
  rw [if_pos hvc] at h1
  rcases lt_or_ge k (r c) with h2 | h2
  · exact absurd (he.trans hvc.symm) ((h c).lt k hc1 h2).ne
  · omega

/-- The greatest of finitely many values, as a fold from the least extended real, is one of them and bounds them all. -/
theorem fold_max_spec {ι : Type} [Fintype ι] [Nonempty ι] (g : ι → EReal) :
    (∀ i, g i ≤ (Finset.univ : Finset ι).fold max ⊥ g) ∧ ∃ i, g i = (Finset.univ : Finset ι).fold max ⊥ g := by
  have he : (Finset.univ : Finset ι).fold max ⊥ g = (Finset.univ : Finset ι).sup g := rfl
  rw [he]
  refine ⟨fun i => Finset.le_sup (Finset.mem_univ i), ?_⟩
  obtain ⟨i, _, hi⟩ := Finset.exists_mem_eq_sup _ (Finset.univ_nonempty (α := ι)) g
  exact ⟨i, hi.symm⟩

/-- The least, as a fold from the greatest extended real. -/
theorem fold_min_spec {ι : Type} [Fintype ι] [Nonempty ι] (g : ι → EReal) :
    (∀ i, (Finset.univ : Finset ι).fold min ⊤ g ≤ g i) ∧ ∃ i, g i = (Finset.univ : Finset ι).fold min ⊤ g := by
  have he : (Finset.univ : Finset ι).fold min ⊤ g = (Finset.univ : Finset ι).inf g := rfl
  rw [he]
  refine ⟨fun i => Finset.inf_le (Finset.mem_univ i), ?_⟩
  obtain ⟨i, _, hi⟩ := Finset.exists_mem_eq_inf _ (Finset.univ_nonempty (α := ι)) g
  exact ⟨i, hi.symm⟩

/-- Keep the better of two pairs: the greater value, and between equal values the smaller row. -/
def better (a b : EReal × ℤ) : EReal × ℤ :=
  (if b.1 < a.1 then a.1 else b.1, if b.1 < a.1 ∨ (a.1 = b.1 ∧ a.2 < b.2) then a.2 else b.2)

/-- The kept pair is one of the two. -/
theorem better_mem (a b : EReal × ℤ) : better a b = a ∨ better a b = b := by
  unfold better
  by_cases h : b.1 < a.1
  · left; rw [if_pos h, if_pos (Or.inl h)]
  · by_cases h' : a.1 = b.1 ∧ a.2 < b.2
    · left; rw [if_neg h, if_pos (Or.inr h'), ← h'.1]
    · right; rw [if_neg h, if_neg (by tauto)]

/-- `p` is no worse than `q`: its value is greater, or the same with a row that is no later. -/
def NoWorse (p q : EReal × ℤ) : Prop := q.1 < p.1 ∨ (q.1 = p.1 ∧ p.2 ≤ q.2)

/-- A pair is no worse than itself. -/
theorem NoWorse.refl (p : EReal × ℤ) : NoWorse p p := Or.inr ⟨rfl, le_rfl⟩

/-- The relation is transitive. -/
theorem NoWorse.trans {p q s : EReal × ℤ} (h : NoWorse p q) (h' : NoWorse q s) : NoWorse p s := by
  rcases h with h | ⟨h, h2⟩ <;> rcases h' with h' | ⟨h', h2'⟩
  · exact Or.inl (h'.trans h)
  · exact Or.inl (h'.trans_lt h)
  · exact Or.inl (h'.trans_eq h)
  · exact Or.inr ⟨h'.trans h, h2.trans h2'⟩

/-- The kept pair is no worse than either. -/
theorem better_noWorse (a b : EReal × ℤ) : NoWorse (better a b) a ∧ NoWorse (better a b) b := by
  unfold better NoWorse
  rcases lt_trichotomy a.1 b.1 with h | h | h
  · simp [h, h.le, h.not_gt, h.ne]
  · by_cases h' : a.2 < b.2
    · simp [h, h', h'.le]
    · simp [h, h', not_lt.mp h']
  · simp [h]

/-- Folding over a list keeps a pair that stands in it (or the initial one) and is no worse than all of them. -/
theorem foldl_better (l : List (EReal × ℤ)) (p₀ : EReal × ℤ) :
    (l.foldl better p₀ = p₀ ∨ l.foldl better p₀ ∈ l) ∧ NoWorse (l.foldl better p₀) p₀
      ∧ ∀ q ∈ l, NoWorse (l.foldl better p₀) q := by
  induction l generalizing p₀ with
  | nil => exact ⟨Or.inl rfl, NoWorse.refl _, fun q h => absurd h (List.not_mem_nil)⟩
  | cons a l ih =>
    obtain ⟨h1, h2, h3⟩ := ih (better p₀ a)
    obtain ⟨hb1, hb2⟩ := better_noWorse p₀ a
    refine ⟨?_, h2.trans hb1, fun q hq => ?_⟩
    · rcases h1 with h1 | h1
      · rcases better_mem p₀ a with h | h
        · exact Or.inl (h1.trans h)
        · exact Or.inr (List.mem_cons.mpr (Or.inl (h1.trans h)))
      · exact Or.inr (List.mem_cons_of_mem _ h1)
    · rcases List.mem_cons.mp hq with rfl | hq
      · exact h2.trans hb2
      · exact h3 q hq

/-- So over the rows of a column, from the least value at row 0, the fold finds the first row of the maximum. -/
theorem isFirst_of_foldl {f : ℕ → EReal} {N : ℕ} (hN : 0 < N) (l : List (EReal × ℤ))
    (hl : ∀ q, q ∈ l ↔ ∃ k, k < N ∧ q = (f k, (k : ℤ))) :
    ∃ r : ℕ, (l.foldl better (⊥, 0)).2 = (r : ℤ) ∧ IsFirst f 0 N r (l.foldl better (⊥, 0)).1 := by
  obtain ⟨h1, h2, h3⟩ := foldl_better l (⊥, 0)
  have h0 : (f 0, ((0 : ℕ) : ℤ)) ∈ l := (hl _).mpr ⟨0, hN, rfl⟩
  have hm : l.foldl better (⊥, 0) ∈ l := by
    rcases h1 with h1 | h1
    · have h4 := h3 _ h0
      rw [h1] at h4 ⊢
      rcases h4 with h4 | ⟨h4, _⟩
      · exact absurd h4 (not_lt_bot)
      · have h5 : f 0 = ⊥ := h4
        rw [h5] at h0
        exact h0
    · exact h1
  obtain ⟨r, hr, he⟩ := (hl _).mp hm
  have hw : ∀ k, k < N → NoWorse (f r, (r : ℤ)) (f k, (k : ℤ)) := fun k hk => he ▸ h3 _ ((hl _).mpr ⟨k, hk, rfl⟩)
  rw [he]
  refine ⟨r, rfl, Nat.zero_le _, hr, rfl, fun k _ hk => ?_, fun k _ hk => ?_⟩
  · rcases hw k hk with h | ⟨h, _⟩
    · exact le_of_lt h
    · exact le_of_eq h
  · rcases hw k (hk.trans hr) with h | ⟨_, h⟩
    · exact h
    · have : (r : ℤ) ≤ (k : ℤ) := h
      omega

end Argmax

end
-- ==== Proof.Final.lean ====
/-
# The result array

The result is written back once, after the last grid point, and covers its whole array: after the run the array holds
what the last point left.
-/
module

public import proofs.«01_k».proof.Proof.Run
public import Idealize.ShloMosaic.Lib.Pipeline.ValueKit.Geometry

@[expose] public section

set_option maxRecDepth 16384

noncomputable section

namespace Cert.KernelIdeal.Exchange

open Cert.KernelIdeal Cert.KernelIdeal.Gen
open Idealize.ShloMosaic
open Idealize.ShloMosaic.TcCoe
open Idealize.ShloMosaic.Pipeline

variable {F : FTy → Type} [FloatOps F]

variable (m : (ℓ : Loc nD τ sig) → Buf (Elt F) ℓ) (ρ : Dev nD → PrngReg)

/-- The result array after the run. -/
theorem finalA_out (c : Dev nD) : finalA m ρ c (1 : Fin 2) = outB m ρ := by
  refine (dats (F := F) m ρ 0 c).arrAt_eq_of_after_last (1 : Fin 2) (pt 7) (by decide +kernel) _ fun j => ?_
  rfl

/-- Row `r`, column `j` of a device's block. -/
def blkIx (r : Fin 4096) (j : Fin 1024) : S4096x1024.Idx := fun a => match a with
  | ⟨0, _⟩ => ⟨r.val, r.isLt⟩
  | ⟨1, _⟩ => ⟨j.val, j.isLt⟩

/-- Grid point `t` reads block row `t`, -/
theorem index_rows (t : Fin cfg0.N) : win0_0.index t (0 : Fin 2) = t.val := by
  revert t; decide +kernel

/-- and all columns. -/
theorem index_cols (t : Fin cfg0.N) : win0_0.index t (1 : Fin 2) = 0 := by
  revert t; decide +kernel

/-- Grid point `t` reads the `t`-th run of 512 rows of the device's block. -/
theorem tile_apply (c : Dev nD) (t : Fin cfg0.N) (y : S512x1024.Idx) (r : Fin 4096)
    (hr : r.val = t.val * 512 + (y 0).val) :
    tile m ρ c t y = m ((c : Thread nD τ).loc main_arg0) (blkIx r ⟨(y 1).val, (y 1).isLt⟩) := by
  unfold tile
  blk_simp
  show m ((c : Thread nD τ).loc main_arg0) _ = _
  congr 1
  funext a
  apply Fin.ext
  fin_cases a
  · show (((win0_0.blk t).view.emb y) (0 : Fin 2)).val = r.val
    blk_simp
    rw [hr, index_rows]
  · show (((win0_0.blk t).view.emb y) (1 : Fin 2)).val = (y 1).val
    blk_simp
    rw [index_cols, Nat.zero_mul, Nat.zero_add]

end Cert.KernelIdeal.Exchange

end
-- ==== Proof.Payload.lean ====
/-
# What a grid point computes

The kernel's vector operations over the extended reals, read at one column: a tile's maximum and the first row that
reaches it, the step that keeps the better of the running pair and the tile's, and the last step, which takes the best
of the four devices' pairs.
-/
module

public import proofs.«01_k».proof.Proof.Argmax
public import proofs.«01_k».proof.Proof.Final
public import Idealize.ShloMosaic.Lib.Pipeline.Value

@[expose] public section

set_option maxRecDepth 16384

noncomputable section

namespace Cert.KernelIdeal.Exchange

open Cert.KernelIdeal Cert.KernelIdeal.Gen
open Idealize.ShloMosaic
open Idealize.ShloMosaic.TcCoe
open Idealize.ShloMosaic.Pipeline
open Argmax

/-! ## Constants -/

/-- The pattern of minus infinity. -/
theorem neg_inf : FloatOps.ofBits (F := Ideal) .f32 0xFF800000#32 = (⊥ : EReal) := by
  show Ideal.ofBits .f32 0xFF800000#32 = ⊥
  simp [Ideal.ofBits, Ideal.ieee]

/-- The pattern of plus infinity. -/
theorem pos_inf : FloatOps.ofBits (F := Ideal) .f32 0x7F800000#32 = (⊤ : EReal) := by
  show Ideal.ofBits .f32 0x7F800000#32 = ⊤
  simp [Ideal.ofBits, Ideal.ieee]

/-- The pattern of the number of rows. -/
theorem beyond : FloatOps.ofBits (F := Ideal) .f32 0x46800000#32 = (((16384 : ℕ) : ℝ) : EReal) := by
  show Ideal.ofBits .f32 0x46800000#32 = _
  simp [Ideal.ofBits, Ideal.ieee, -EReal.coe_mul]; norm_num

/-! ## Indices -/

/-- Column `j` of a vector. -/
def vecIx (j : Fin 1024) : S1024.Idx := fun a => match a with
  | ⟨0, _⟩ => ⟨j.val, j.isLt⟩
/-- Row `k`, column `j` of a tile. -/
def tileIx (k : Fin 512) (j : Fin 1024) : S512x1024.Idx := fun a => match a with
  | ⟨0, _⟩ => ⟨k.val, k.isLt⟩
  | ⟨1, _⟩ => ⟨j.val, j.isLt⟩
/-- Device `c`, column `j` of the gathered rows. -/
def devIx (c : Fin 4) (j : Fin 1024) : S4x1024.Idx := fun a => match a with
  | ⟨0, _⟩ => ⟨c.val, c.isLt⟩
  | ⟨1, _⟩ => ⟨j.val, j.isLt⟩
/-- The same in the exchange buffer's shape. -/
def slotIx (c : Fin 4) (j : Fin 1024) : S4x1x1024.Idx := fun a => match a with
  | ⟨0, _⟩ => ⟨c.val, c.isLt⟩
  | ⟨1, _⟩ => ⟨0, Nat.one_pos⟩
  | ⟨2, _⟩ => ⟨j.val, j.isLt⟩

/-- The rows of a tile above a column. -/
theorem lift_tile (k : Fin 512) (j : Fin 1024) : reduces_S512x1024_S1024.lift (vecIx j) k = tileIx k j := by
  funext a; match a with
  | ⟨0, _⟩ => rfl
  | ⟨1, _⟩ => rfl

/-- The four devices' entries of a column. -/
theorem lift_dev (c : Fin 4) (j : Fin 1024) : reduces_S4x1024_S1024.lift (vecIx j) c = devIx c j := by
  funext a; match a with
  | ⟨0, _⟩ => rfl
  | ⟨1, _⟩ => rfl

section Casts

variable {α : Type}

/-- A tile recast to its own shape. -/
theorem cast_tile (x : S512x1024.Idx → α) (h : S512x1024.ShapeCasts S512x1024) (i : S512x1024.Idx) :
    shapeCast S512x1024 x h i = x i := shapeCast_apply x h i i rfl

/-- A vector as a slot row, -/
theorem cast_col (x : S1024.Idx → α) (h : S1024.ShapeCasts S1x1x1024) (j : Fin 1024) :
    shapeCast S1x1x1024 x h (colIx j) = x (vecIx j) :=
  shapeCast_apply x h _ _ (by
    rw [Shape.rowMajor_val_one, Shape.rowMajor_val_three]
    show j.val = (0 * 1 + 0) * 1024 + j.val
    omega)

/-- and back; -/
theorem cast_vec (x : S1x1x1024.Idx → α) (h : S1x1x1024.ShapeCasts S1024) (j : Fin 1024) :
    shapeCast S1024 x h (vecIx j) = x (colIx j) :=
  shapeCast_apply x h _ _ (by
    rw [Shape.rowMajor_val_one, Shape.rowMajor_val_three]
    show (0 * 1 + 0) * 1024 + j.val = j.val
    omega)

/-- a vector as a row; -/
theorem cast_row (x : S1024.Idx → α) (h : S1024.ShapeCasts S1x1024) (j : Fin 1024) :
    shapeCast S1x1024 x h (rowIx j) = x (vecIx j) :=
  shapeCast_apply x h _ _ (by
    rw [Shape.rowMajor_val_one, Shape.rowMajor_val_two]
    show j.val = 0 * 1024 + j.val
    omega)

/-- the slots' rows as a matrix. -/
theorem cast_dev (x : S4x1x1024.Idx → α) (h : S4x1x1024.ShapeCasts S4x1024) (c : Fin 4) (j : Fin 1024) :
    shapeCast S4x1024 x h (devIx c j) = x (slotIx c j) :=
  shapeCast_apply x h _ _ (by
    rw [Shape.rowMajor_val_three, Shape.rowMajor_val_two]
    show (c.val * 1 + 0) * 1024 + j.val = c.val * 1024 + j.val
    omega)

end Casts

/-! ## Reductions -/

/-- The row index a tile's index reduction answers: the first at which the column is greatest. -/
theorem reduceIndex_spec {s t : Shape} {a : Fin s.rank} (h : s.Reduces [a] t) (x : s.Idx → EReal) (j : t.Idx)
    (hpos : 0 < s.size a) :
    ∃ k : Fin (s.size a), Ideal.reduceIndex .argMax a h x j = BitVec.ofNat 32 k.val
      ∧ (∀ k', x (h.lift j k') ≤ x (h.lift j k)) ∧ ∀ k' < k, x (h.lift j k') < x (h.lift j k) := by
  classical
  haveI : Nonempty (Fin (s.size a)) := ⟨⟨0, hpos⟩⟩
  obtain ⟨k₀, hk₀⟩ := Finite.exists_max fun k => x (h.lift j k)
  unfold Ideal.reduceIndex
  simp only [if_true]
  generalize hE : (Finset.univ.filter fun i : s.Idx => h.drop i = j).filter
    (fun i => ∀ i' ∈ Finset.univ.filter (fun i : s.Idx => h.drop i = j), ¬ x i < x i') = E
  have hmem : ∀ k, h.lift j k ∈ E ↔ ∀ k', x (h.lift j k') ≤ x (h.lift j k) := fun k => by
    rw [← hE]
    simp only [Finset.mem_filter, Finset.mem_univ, true_and, h.drop_lift, not_lt]
    refine ⟨fun hk k' => hk _ (h.drop_lift j k'), fun hk i' hi' => ?_⟩
    have e := h.lift_drop i'
    rw [hi'] at e
    exact e ▸ hk (i' a)
  have hne : (E.image fun i => (i a).val).Nonempty := ⟨_, Finset.mem_image_of_mem _ ((hmem k₀).mpr hk₀)⟩
  obtain ⟨r, hr⟩ := Finset.min_of_nonempty hne
  obtain ⟨i, hi, hir⟩ := Finset.mem_image.mp (Finset.mem_of_min hr)
  have hdrop : h.drop i = j := by
    rw [← hE] at hi
    exact (Finset.mem_filter.mp (Finset.mem_filter.mp hi).1).2
  have hlift : h.lift j (i a) = i := hdrop ▸ h.lift_drop i
  refine ⟨i a, ?_, (hmem (i a)).mp (hlift.symm ▸ hi), fun k' hk' => ?_⟩
  · rw [hr, hir]; rfl
  · refine lt_of_le_of_ne ((hmem (i a)).mp (hlift.symm ▸ hi) k') fun he => ?_
    have hk'E : h.lift j k' ∈ E := (hmem k').mpr fun k'' => he ▸ (hmem (i a)).mp (hlift.symm ▸ hi) k''
    have h1 : (h.lift j k' a).val = k'.val := by
      rw [h.lift_val]; simp [Shape.Reduces.liftVal]
    have h2 := Finset.min_le_of_eq (Finset.mem_image_of_mem (fun i : s.Idx => (i a).val) hk'E) hr
    simp only [h1] at h2
    have h3 : k'.val < (i a).val := hk'
    omega

/-- A tile's maximum in column `j` bounds the column and is reached. -/
theorem tileMax_spec (v : Vec Ideal S512x1024 .f32) (j : Fin 1024) :
    (∀ k, v (tileIx k j) ≤ k0_pay2 v (vecIx j)) ∧ ∃ k, v (tileIx k j) = k0_pay2 v (vecIx j) := by
  have he : k0_pay2 v (vecIx j) = (Finset.univ : Finset (Fin 512)).fold max ⊥ fun k => v (tileIx k j) := by
    unfold k0_pay2
    refine (Ideal.multiReduction_maximumf_single _ _ _ _ _ _).trans ?_
    rw [neg_inf]
    refine congrArg (fun g => (Finset.univ : Finset (Fin 512)).fold max ⊥ g) (funext fun k => ?_)
    exact (congrArg (k0_pay1 v) (lift_tile k j)).trans (cast_tile v _ _)
  rw [he]
  exact fold_max_spec _

/-- Over the four devices likewise. -/
theorem devMax_spec (v : Vec Ideal S4x1x1024 .f32) (j : Fin 1024) :
    (∀ c, v (slotIx c j) ≤ k0_pay11 v (vecIx j)) ∧ ∃ c, v (slotIx c j) = k0_pay11 v (vecIx j) := by
  have he : k0_pay11 v (vecIx j) = (Finset.univ : Finset (Fin 4)).fold max ⊥ fun c => v (slotIx c j) := by
    unfold k0_pay11
    refine (Ideal.multiReduction_maximumf_single _ _ _ _ _ _).trans ?_
    rw [neg_inf]
    refine congrArg (fun g => (Finset.univ : Finset (Fin 4)).fold max ⊥ g) (funext fun c => ?_)
    exact (congrArg (k0_pay10 v) (lift_dev c j)).trans (cast_dev v _ _ _)
  rw [he]
  exact fold_max_spec _

/-- A choice on a bit made from a condition is a choice on the condition. -/
theorem choose_ofBool {α : Type} (p : Prop) [Decidable p] (a b : α) :
    (if BitVec.ofBool (decide p) = 1 then a else b) = if p then a else b := by
  by_cases h : p <;> simp [h]

/-- Choosing where one value exceeds another. -/
theorem choose_gt (p a q b : Ideal .f32) :
    Scalar.select (FloatOps.cmpf .ogt p a) q b = if (a : EReal) < p then q else b := by
  simp only [Scalar.select, Ideal.cmpf_def, Ideal.cmp]
  exact choose_ofBool _ _ _

/-- What a device offers for the least row: its own row if its maximum is the overall one, else a row beyond the end. -/
theorem offered (v w : Vec Ideal S4x1x1024 .f32) (c : Fin 4) (j : Fin 1024) :
    select (cmpf .oeq (k0_pay10 v) (broadcastTo S4x1024 (shapeCast S1x1024 (k0_pay11 v) shapeCasts_S1024_S1x1024)
        broadcasts_S1x1024_S4x1024)) (shapeCast S4x1024 w shapeCasts_S4x1x1024_S4x1024)
      (broadcast S4x1024 (Scalar.ofBits (F := Ideal) .f32 0x46800000#32)) (devIx c j)
      = if v (slotIx c j) = k0_pay11 v (vecIx j) then w (slotIx c j) else (((16384 : ℕ) : ℝ) : EReal) := by
  show Scalar.select (FloatOps.cmpf .oeq (k0_pay10 v (devIx c j)) (broadcastTo S4x1024 _ _ (devIx c j)))
    (shapeCast S4x1024 w shapeCasts_S4x1x1024_S4x1024 (devIx c j)) (FloatOps.ofBits (F := Ideal) .f32 0x46800000#32) = _
  rw [broadcastTo_apply _ _ (devIx c j) (rowIx j) (by intro a; fin_cases a <;> rfl), cast_row, cast_dev, beyond]
  unfold k0_pay10
  rw [cast_dev]
  simp only [Scalar.select, Ideal.cmpf_def, Ideal.cmp]
  exact choose_ofBool _ _ _

/-- Among the devices' row indices, those whose maximum is not the overall one standing for a row beyond the end, the
    least bounds them all and is reached. -/
theorem devArg_spec (v w : Vec Ideal S4x1x1024 .f32) (j : Fin 1024) :
    (∀ c, k0_pay13 v w (rowIx j) ≤ if v (slotIx c j) = k0_pay11 v (vecIx j) then w (slotIx c j) else (((16384 : ℕ) : ℝ) : EReal))
      ∧ ∃ c, (if v (slotIx c j) = k0_pay11 v (vecIx j) then w (slotIx c j) else (((16384 : ℕ) : ℝ) : EReal))
          = k0_pay13 v w (rowIx j) := by
  have he : k0_pay13 v w (rowIx j) = (Finset.univ : Finset (Fin 4)).fold min ⊤ fun c =>
      if v (slotIx c j) = k0_pay11 v (vecIx j) then w (slotIx c j) else (((16384 : ℕ) : ℝ) : EReal) := by
    unfold k0_pay13
    refine (cast_row _ _ j).trans ?_
    refine (multiReduction_minimumf_eq_fold _ _ _ _ _ _).trans ?_
    refine (reduces_S4x1024_S1024.fold_filter_drop_single _ _ _ _).trans ?_
    rw [pos_inf]
    refine congrArg (fun g => (Finset.univ : Finset (Fin 4)).fold min ⊤ g) (funext fun c => ?_)
    exact (congrArg _ (lift_dev c j)).trans (offered v w c j)
  rw [he]
  exact fold_min_spec _

/-! ## One grid point -/

/-- The word of a device's number of rows before it. -/
theorem dev_word (c : Dev nD) :
    Scalar.muli (Scalar.remsi (Scalar.divsi (Dev.word c) 1#32) 4#32) 4096#32 = BitVec.ofNat 32 (c.val * 4096) := by
  revert c; decide

/-- A small natural number survives its word, read as a signed number. -/
theorem toInt_ofNat_small (n : ℕ) (h : n < 16384) : (BitVec.ofNat 32 n).toInt = (n : ℤ) := by
  rw [BitVec.toInt_eq_toNat_of_lt (by rw [BitVec.toNat_ofNat]; omega), BitVec.toNat_ofNat, Nat.mod_eq_of_lt (by omega)]

/-- A tile's row index in column `j`: the first row of the tile at which the column is greatest, counted from the
    first row of the whole array. -/
theorem tileArg_spec (i : grid0.Coords) (c : Dev nD) (v : Vec Ideal S512x1024 .f32) (j : Fin 1024) :
    ∃ k : Fin 512, k0_pay3 i c v (vecIx j) = (((c.val * 4096 + (i 0).val * 512 + k.val : ℕ) : ℝ) : EReal)
      ∧ v (tileIx k j) = k0_pay2 v (vecIx j) ∧ ∀ k' < k, v (tileIx k' j) < k0_pay2 v (vecIx j) := by
  obtain ⟨k, hk, hmax, hfirst⟩ := reduceIndex_spec reduces_S512x1024_S1024 (k0_pay1 v) (vecIx j) (by decide)
  have hl : ∀ k : Fin 512, k0_pay1 v (reduces_S512x1024_S1024.lift (vecIx j) k) = v (tileIx k j) := fun k =>
    (congrArg (k0_pay1 v) (lift_tile k j)).trans (cast_tile v _ _)
  have hmax' : ∀ k' : Fin 512, v (tileIx k' j) ≤ v (tileIx k j) := fun k' => (hl k') ▸ (hl k) ▸ hmax k'
  obtain ⟨hle, k₁, hk₁⟩ := tileMax_spec v j
  have hv : v (tileIx k j) = k0_pay2 v (vecIx j) := le_antisymm (hle k) (hk₁ ▸ hmax' k₁)
  refine ⟨k, ?_, hv, fun k' hk' => hv ▸ (hl k') ▸ (hl k) ▸ hfirst k' hk'⟩
  have hi : (i 0).val < 8 := (i 0).isLt
  have hc : c.val < 4 := c.isLt
  have hk' : k.val < 512 := k.isLt
  unfold k0_pay3
  show (((IntOp.addi (IntOp.addi (Ideal.reduceIndex .argMax 0 reduces_S512x1024_S1024 (k0_pay1 v) (vecIx j))
    (Scalar.muli (BitVec.ofNat 32 (i 0).val) 512#32))
    (Scalar.muli (Scalar.remsi (Scalar.divsi (Dev.word c) 1#32) 4#32) 4096#32)).toInt : ℝ) : EReal) = _
  rw [hk, dev_word]
  have hw : IntOp.addi (IntOp.addi (BitVec.ofNat 32 k.val) (Scalar.muli (BitVec.ofNat 32 (i 0).val) 512#32))
      (BitVec.ofNat 32 (c.val * 4096)) = BitVec.ofNat 32 (c.val * 4096 + (i 0).val * 512 + k.val) := by
    show BitVec.ofNat 32 k.val + BitVec.ofNat 32 (i 0).val * BitVec.ofNat 32 512 + BitVec.ofNat 32 (c.val * 4096) = _
    rw [← BitVec.ofNat_mul, ← BitVec.ofNat_add, ← BitVec.ofNat_add]
    congr 1; omega
  rw [hw, toInt_ofNat_small _ (by omega)]
  norm_cast

/-- The running values as a vector. -/
theorem running_apply (a : Vec Ideal S1x1x1024 .f32) (j : Fin 1024) : k0_pay6 a (vecIx j) = a (colIx j) := by
  unfold k0_pay6
  exact cast_vec a _ j

/-- Choosing, lane by lane, where one vector exceeds another. -/
theorem select_gt (p a q b : FVec Ideal S1024 .f32) (i : S1024.Idx) :
    select (cmpf .ogt p a) q b i = if (a i : EReal) < p i then q i else b i :=
  choose_gt (p i) (a i) (q i) (b i)

/-- The running maximum after a further tile. -/
theorem stepMax (x : Vec Ideal S512x1024 .f32) (a : Vec Ideal S1x1x1024 .f32) (j : Fin 1024) :
    k0_pay8 x a (colIx j) = if (a (colIx j) : EReal) < k0_pay2 x (vecIx j) then k0_pay2 x (vecIx j) else a (colIx j) := by
  have e : k0_pay8 x a = shapeCast S1x1x1024 (select (cmpf .ogt (k0_pay2 x) (k0_pay6 a)) (k0_pay2 x) (k0_pay6 a))
      shapeCasts_S1024_S1x1x1024 := by
    unfold k0_pay8 k0_pay7
    rfl
  rw [e, cast_col, select_gt, running_apply]

/-- The running row index after a further tile. -/
theorem stepArg (i : grid0.Coords) (c : Dev nD) (x : Vec Ideal S512x1024 .f32) (a b : Vec Ideal S1x1x1024 .f32) (j : Fin 1024) :
    k0_pay9 i c x a b (colIx j) = if (a (colIx j) : EReal) < k0_pay2 x (vecIx j) then k0_pay3 i c x (vecIx j) else b (colIx j) := by
  have e : k0_pay9 i c x a b = shapeCast S1x1x1024 (select (cmpf .ogt (k0_pay2 x) (k0_pay6 a)) (k0_pay3 i c x)
      (shapeCast S1024 b shapeCasts_S1x1x1024_S1024)) shapeCasts_S1024_S1x1x1024 := by
    unfold k0_pay9 k0_pay7
    rfl
  rw [e, cast_col, select_gt, running_apply, cast_vec]

end Cert.KernelIdeal.Exchange

end
-- ==== Proof.Value.lean ====
/-
# The kernel's result over the extended reals

When the devices hold the four blocks of rows of one array, the kernel's result is, in every column, the column's
greatest value and the first row at which it stands.
-/
module

public import proofs.«01_k».proof.Proof.Payload

@[expose] public section

set_option maxRecDepth 16384

noncomputable section

namespace Cert.KernelIdeal.Exchange

open Cert.KernelIdeal Cert.KernelIdeal.Gen
open Idealize.ShloMosaic
open Idealize.ShloMosaic.TcCoe
open Idealize.ShloMosaic.Pipeline
open Argmax

/-- Row `r`, column `j` of the whole array. -/
def wholeIx (r : Fin 16384) (j : Fin 1024) : (⟨2, ![16384, 1024]⟩ : Shape).Idx := fun a => match a with
  | ⟨0, _⟩ => ⟨r.val, r.isLt⟩
  | ⟨1, _⟩ => ⟨j.val, j.isLt⟩

/-- Column `j` of the whole array, by the row number. -/
def column (X : (⟨2, ![16384, 1024]⟩ : Shape).Idx → EReal) (j : Fin 1024) (r : ℕ) : EReal :=
  X (wholeIx ⟨r % 16384, Nat.mod_lt _ (by omega)⟩ j)

/-- At a row of the array the column is the array's entry. -/
theorem column_apply (X : (⟨2, ![16384, 1024]⟩ : Shape).Idx → EReal) (j : Fin 1024) (r : Fin 16384) :
    column X j r.val = X (wholeIx r j) := by
  unfold column
  congr 2
  exact Fin.ext (Nat.mod_eq_of_lt r.isLt)

/-- Block `c` of the whole array is its rows from `4096 c`. -/
theorem block_column (X : (⟨2, ![16384, 1024]⟩ : Shape).Idx → EReal) (c : Fin 4) (r : Fin 4096) (j : Fin 1024) :
    Layout.block ⟨2, ![4096, 1024]⟩ ⟨2, ![16384, 1024]⟩ 0 4 c X (by decide) (blkIx r j) = column X j (c.val * 4096 + r.val) := by
  have hc := c.isLt
  have hr := r.isLt
  rw [Layout.block_apply]
  refine Eq.trans ?_ (column_apply X j ⟨c.val * 4096 + r.val, by omega⟩).symm
  refine congrArg X (funext fun a => Fin.ext ?_)
  rw [Layout.Tiles.idx_val]
  match a with
  | ⟨0, _⟩ => rfl
  | ⟨1, _⟩ => rfl

variable (m : (ℓ : Loc nD τ sig) → Buf (Elt Ideal) ℓ) (ρ : Dev nD → PrngReg)

/-- The devices hold the blocks of `X`. -/
def Holds (X : (⟨2, ![16384, 1024]⟩ : Shape).Idx → EReal) : Prop :=
  ∀ (c : Dev nD) (r : Fin 4096) (j : Fin 1024),
    (m ((c : Thread nD τ).loc main_arg0) (blkIx r j) : EReal) = column X j (c.val * 4096 + r.val)

variable {m} {X : (⟨2, ![16384, 1024]⟩ : Shape).Idx → EReal}

/-- A grid point's coordinate is its number. -/
theorem coords_val (t : Fin cfg0.N) : (cfg0.grid.coords t 0).val = t.val := by
  revert t; decide +kernel

/-- Grid point `n` of eight has number `n`. -/
theorem pt_num (n : ℕ) (hn : n < 8) : (pt n).val = n := Nat.mod_eq_of_lt hn

/-- Grid point `t` of device `c` reads rows `4096 c + 512 t` and on. -/
theorem tile_column (hX : Holds m X) (c : Dev nD) (t : Fin cfg0.N) (k : Fin 512) (j : Fin 1024) :
    (tile m ρ c t (tileIx k j) : EReal) = column X j (c.val * 4096 + t.val * 512 + k.val) := by
  have ht : t.val < 8 := lt_of_lt_of_eq t.isLt N_0
  have hk := k.isLt
  refine (tile_apply m ρ c t (tileIx k j) ⟨t.val * 512 + k.val, by omega⟩ rfl).trans ((hX c _ _).trans ?_)
  rw [← Nat.add_assoc]
  rfl

/-- What the tile contributes is the first row of the maximum over the tile. -/
theorem tile_first (hX : Holds m X) (c : Dev nD) (t : Fin cfg0.N) (j : Fin 1024) :
    ∃ r : ℕ, k0_pay3 (cfg0.grid.coords t) c (tile m ρ c t) (vecIx j) = ((r : ℝ) : EReal)
      ∧ IsFirst (column X j) (c.val * 4096 + t.val * 512) (c.val * 4096 + (t.val + 1) * 512) r
          (k0_pay2 (tile m ρ c t) (vecIx j)) := by
  obtain ⟨k, hk, hv, hlt⟩ := tileArg_spec (cfg0.grid.coords t) c (tile m ρ c t) j
  have hkl := k.isLt
  rw [coords_val] at hk
  have hin : ∀ n, c.val * 4096 + t.val * 512 ≤ n → n < c.val * 4096 + (t.val + 1) * 512 →
      ∃ k' : Fin 512, n = c.val * 4096 + t.val * 512 + k'.val := fun n h1 h2 =>
    ⟨⟨n - (c.val * 4096 + t.val * 512), by omega⟩, by show n = _ + (n - _); omega⟩
  refine ⟨_, hk, ⟨by omega, by omega, (tile_column ρ hX c t k j).symm.trans hv, fun n h1 h2 => ?_, fun n h1 h2 => ?_⟩⟩
  · obtain ⟨k', rfl⟩ := hin n h1 h2
    rw [← tile_column ρ hX c t k' j]
    exact (tileMax_spec _ j).1 k'
  · obtain ⟨k', rfl⟩ := hin n h1 (by omega)
    rw [← tile_column ρ hX c t k' j]
    exact hlt k' (Fin.lt_def.mpr (by omega))

/-- The running pair starts from the first tile's, -/
theorem firstMax (x : Vec Ideal S512x1024 .f32) (j : Fin 1024) : k0_pay4 x (colIx j) = k0_pay2 x (vecIx j) := by
  have e : k0_pay4 x = shapeCast S1x1x1024 (k0_pay2 x) shapeCasts_S1024_S1x1x1024 := by
    unfold k0_pay4
    rfl
  rw [e, cast_col]

/-- the row index too. -/
theorem firstArg (i : grid0.Coords) (c : Dev nD) (x : Vec Ideal S512x1024 .f32) (j : Fin 1024) :
    k0_pay5 i c x (colIx j) = k0_pay3 i c x (vecIx j) := by
  have e : k0_pay5 i c x = shapeCast S1x1x1024 (k0_pay3 i c x) shapeCasts_S1024_S1x1x1024 := by
    unfold k0_pay5
    rfl
  rw [e, cast_col]

/-- The running maximum before any merge; -/
theorem acc_fst_zero (c : Dev nD) : (acc m ρ c 0).1 = k0_pay4 (tile m ρ c (pt 0)) := by
  rw [acc]

/-- the running row index; -/
theorem acc_snd_zero (c : Dev nD) : (acc m ρ c 0).2 = k0_pay5 (cfg0.grid.coords (pt 0)) c (tile m ρ c (pt 0)) := by
  rw [acc]

/-- the running maximum after a merge; -/
theorem acc_fst_succ (c : Dev nD) (n : ℕ) :
    (acc m ρ c (n + 1)).1 = k0_pay8 (tile m ρ c (pt (n + 1))) (acc m ρ c n).1 := by
  rw [acc]

/-- the running row index after a merge. -/
theorem acc_snd_succ (c : Dev nD) (n : ℕ) : (acc m ρ c (n + 1)).2
    = k0_pay9 (cfg0.grid.coords (pt (n + 1))) c (tile m ρ c (pt (n + 1))) (acc m ρ c n).1 (acc m ρ c n).2 := by
  rw [acc]

/-- After grid point `n` the running pair is the first row of the maximum over the rows read so far. -/
theorem acc_first (hX : Holds m X) (c : Dev nD) (j : Fin 1024) : ∀ n, n < 8 →
    ∃ r : ℕ, ((acc m ρ c n).2 (colIx j) : EReal) = ((r : ℝ) : EReal)
      ∧ IsFirst (column X j) (c.val * 4096) (c.val * 4096 + (n + 1) * 512) r ((acc m ρ c n).1 (colIx j))
  | 0, _ => by
    obtain ⟨r, h1, h2⟩ := tile_first ρ hX c (pt 0) j
    refine ⟨r, ?_, ?_⟩
    · rw [acc_snd_zero, firstArg, h1]
    · rw [acc_fst_zero, firstMax]
      rw [pt_num 0 (by omega)] at h2
      simpa using h2
  | n + 1, hn => by
    obtain ⟨r, h1, h2⟩ := acc_first hX c j n (by omega)
    obtain ⟨r', h1', h2'⟩ := tile_first ρ hX c (pt (n + 1)) j
    rw [pt_num (n + 1) hn] at h2'
    have hm := h2.merge h2'
    rw [acc_fst_succ, acc_snd_succ, stepMax, stepArg, h1', h1]
    refine ⟨_, ?_, hm⟩
    split <;> rfl

/-- The kernel's result: in each column the greatest value over all devices' rows and the first row that has it. -/
theorem result_first (hX : Holds m X) (j : Fin 1024) :
    ∃ r : ℕ, (k0_pay13 (allV m ρ) (allI m ρ) (rowIx j) : EReal) = ((r : ℝ) : EReal)
      ∧ IsFirst (column X j) 0 16384 r (k0_pay12 (allV m ρ) (rowIx j)) := by
  have hpay : k0_pay12 (allV m ρ) (rowIx j) = k0_pay11 (allV m ρ) (vecIx j) := by
    unfold k0_pay12
    exact cast_row _ _ j
  rw [hpay]
  choose r hr hf using fun c : Fin 4 => acc_first ρ hX c j 7 (by omega)
  obtain ⟨hle, hmem⟩ := devMax_spec (allV m ρ) j
  obtain ⟨hq, c₀, hc₀⟩ := devArg_spec (allV m ρ) (allI m ρ) j
  have hV : ∀ c : Fin 4, allV m ρ (slotIx c j) = (acc m ρ c 7).1 (colIx j) := fun c => rfl
  have hI : ∀ c : Fin 4, (allI m ρ (slotIx c j) : EReal) = ((r c : ℝ) : EReal) := fun c => hr c
  have hite : ∀ c : Fin 4, (if allV m ρ (slotIx c j) = k0_pay11 (allV m ρ) (vecIx j) then (allI m ρ (slotIx c j) : EReal)
      else (((16384 : ℕ) : ℝ) : EReal))
      = (((if allV m ρ (slotIx c j) = k0_pay11 (allV m ρ) (vecIx j) then r c else 16384 : ℕ) : ℝ) : EReal) := fun c => by
    split
    · exact hI c
    · rfl
  rw [hite c₀] at hc₀
  refine ⟨_, hc₀.symm, ?_⟩
  refine isFirst_of_parts (n := 4) (L := 4096) (big := 16384) (by omega) r (fun c => allV m ρ (slotIx c j)) (fun c => ?_)
    _ hle hmem _ (fun c => ?_) ⟨c₀, rfl⟩
  · exact hf c
  · have h1 := hq c
    rw [hite c, ← hc₀] at h1
    exact_mod_cast h1

end Cert.KernelIdeal.Exchange

end
-- ==== Proof.RefValue.lean ====
/-
# The reference's result over the extended reals

In every column of the reference's result stand the column's greatest value and the first row at which it stands.
-/
module

public import proofs.«01_k».proof.Proof.RefRun
public import proofs.«01_k».proof.Proof.Value

@[expose] public section

set_option maxRecDepth 16384

noncomputable section

namespace Cert.ReferenceIdeal.HostRun

open Cert.ReferenceIdeal Cert.ReferenceIdeal.Gen
open Idealize.ShloMosaic
open Idealize.ShloMosaic.Pipeline
open Argmax
open Cert.KernelIdeal.Exchange (wholeIx column column_apply neg_inf vecIx rowIx toInt_ofNat_small)

/-- The reduction drops the rows. -/
theorem reduces_whole : S16384x1024.Reduces [0] S1024 := by decide

/-- The rows of the whole array above a column. -/
theorem lift_whole (k : Fin 16384) (j : Fin 1024) : reduces_whole.lift (vecIx j) k = wholeIx k j := by
  funext a; match a with
  | ⟨0, _⟩ => rfl
  | ⟨1, _⟩ => rfl

/-- The index the reduction drops to a column, is in that column. -/
theorem drop_whole (i : S16384x1024.Idx) (j : Fin 1024) :
    reducesTo_S16384x1024_S1024_d0.drop i = vecIx j ↔ ∃ k : Fin 16384, i = wholeIx k j := by
  rw [Shape.ReducesTo.drop_eq_drop reducesTo_S16384x1024_S1024_d0 reduces_whole]
  constructor
  · intro h
    exact ⟨i 0, (reduces_whole.lift_drop i).symm.trans
      ((congrArg (fun q => reduces_whole.lift q (i 0)) h).trans (lift_whole (i 0) j))⟩
  · rintro ⟨k, rfl⟩
    rw [← lift_whole]
    exact reduces_whole.drop_lift (vecIx j) k

variable (X : S16384x1024.Idx → Ideal .f32)

/-- The column maximum bounds the column and stands in it. -/
theorem colMax_spec (j : Fin 1024) : (∀ k : Fin 16384, (X (wholeIx k j) : EReal) ≤ colMax X (vecIx j))
    ∧ ∃ k : Fin 16384, (X (wholeIx k j) : EReal) = colMax X (vecIx j) := by
  have he : colMax X (vecIx j) = (Finset.univ : Finset (Fin 16384)).fold max (⊥ : EReal) fun k => X (wholeIx k j) := by
    unfold colMax
    refine (Host.reduce_eq_fold_single (α := EReal) max X _ reducesTo_S16384x1024_S1024_d0 reduces_whole h_S_ (vecIx j)).trans ?_
    have hb : constant (F := Ideal) S_ .f32 0xFF800000#32 (Shape.Idx.first h_S_) = (⊥ : EReal) := neg_inf
    rw [hb]
    refine congrArg (fun g => (Finset.univ : Finset (Fin 16384)).fold max ⊥ g) (funext fun k => ?_)
    exact congrArg X (lift_whole k j)
  rw [he]
  exact fold_max_spec _

/-- A pair of a value and a row word, the word as an integer. -/
def asInt (p : Ideal .f32 × BitVec 32) : EReal × ℤ := (p.1, p.2.toInt)

/-- Its second part. -/
theorem asInt_snd (p : Ideal .f32 × BitVec 32) : (asInt p).2 = p.2.toInt := rfl

/-- The reference's choice between two pairs keeps the greater value and, of equal values, the earlier row. -/
theorem reducer_better (a b : Ideal .f32 × BitVec 32) :
    asInt (reducer_argmax_f32_i32 a b) = better (asInt a) (asInt b) := by
  obtain ⟨a1, a2⟩ := a
  obtain ⟨b1, b2⟩ := b
  unfold reducer_argmax_f32_i32 better asInt
  simp only [Ideal.cmpf_def, Ideal.cmp, IntOp.ori, IntOp.andi, IntOp.cmpi, Scalar.select]
  have hlt : BitVec.slt a2 b2 = decide (a2.toInt < b2.toInt) := rfl
  rcases lt_trichotomy (a1 : EReal) b1 with h | h | h
  · simp [h, h.not_gt, h.ne]
  · by_cases h' : a2.toInt < b2.toInt
    · simp [h, h', hlt]
    · simp [h, h', hlt]
  · simp [h, h.ne']

/-- The choices made along a list, the words read as integers. -/
theorem foldl_asInt (l : List (Ideal .f32 × BitVec 32)) (p : Ideal .f32 × BitVec 32) :
    asInt (l.foldl reducer_argmax_f32_i32 p) = (l.map asInt).foldl better (asInt p) := by
  induction l generalizing p with
  | nil => rfl
  | cons a l ih =>
    rw [List.foldl_cons, List.map_cons, List.foldl_cons, ih, reducer_better]

/-- The pairs the reference chooses from in column `j`: each row's value with the row's number. -/
theorem mem_fiber (j : Fin 1024) (q : EReal × ℤ) :
    q ∈ (Host.argReduceFiber X (iotaInDim S16384x1024 32 0) reducesTo_S16384x1024_S1024_d0 (vecIx j)).map asInt
      ↔ ∃ k, k < 16384 ∧ q = (column X j k, (k : ℤ)) := by
  have hw : ∀ k : Fin 16384, asInt (X (wholeIx k j), iotaInDim S16384x1024 32 0 (wholeIx k j))
      = (column X j k.val, ((k.val : ℕ) : ℤ)) := fun k =>
    Prod.ext (column_apply X j k).symm (toInt_ofNat_small k.val (by have := k.isLt; omega))
  unfold Host.argReduceFiber
  simp only [List.mem_map, List.mem_filter, List.mem_finRange, true_and, decide_eq_true_eq]
  constructor
  · rintro ⟨p, ⟨n, hn, rfl⟩, rfl⟩
    obtain ⟨k, hk⟩ := (drop_whole _ j).mp hn
    exact ⟨k.val, k.isLt, by rw [hk]; exact hw k⟩
  · rintro ⟨k, hk, rfl⟩
    refine ⟨_, ⟨S16384x1024.rowMajor (wholeIx ⟨k, hk⟩ j), ?_, rfl⟩, ?_⟩
    · rw [Equiv.symm_apply_apply]
      exact (drop_whole _ j).mpr ⟨_, rfl⟩
    · rw [Equiv.symm_apply_apply]
      exact hw ⟨k, hk⟩

/-- A reduction by the reference's choice, at any shape, is the choices made along its list of pairs. -/
theorem argReduce_foldl {s t u : Shape} {axes : List (Fin s.rank)} (x : s.Idx → Ideal .f32) (y : s.Idx → BitVec 32)
    (ix : u.Idx → Ideal .f32) (iy : u.Idx → BitVec 32) (h : s.ReducesTo axes t) (hu : 0 < u.numel) (j : t.Idx) :
    asInt (Host.argReduce reducer_argmax_f32_i32 x y ix iy h hu j)
      = ((Host.argReduceFiber x y h j).map asInt).foldl better (asInt (ix (Shape.Idx.first hu), iy (Shape.Idx.first hu))) := by
  rw [Ideal.argReduce_eq_reduce2, Host.reduce2_eq_foldl_fiber, foldl_asInt]

/-- So where the list's pairs are the values of `f` with their numbers, the reduction's row is the first at which `f` is
    greatest. -/
theorem argReduce_first {s t u : Shape} {axes : List (Fin s.rank)} (g : t.Idx → BitVec 32) (x : s.Idx → Ideal .f32)
    (y : s.Idx → BitVec 32) (ix : u.Idx → Ideal .f32) (iy : u.Idx → BitVec 32) (h : s.ReducesTo axes t) (hu : 0 < u.numel)
    (hg : g = fun j => (Host.argReduce reducer_argmax_f32_i32 x y ix iy h hu j).2) (j : t.Idx)
    (f : ℕ → EReal) (N : ℕ) (hN : 0 < N)
    (hl : ∀ q, q ∈ (Host.argReduceFiber x y h j).map asInt ↔ ∃ k, k < N ∧ q = (f k, (k : ℤ)))
    (hx : ix (Shape.Idx.first hu) = (⊥ : EReal)) (hy : (iy (Shape.Idx.first hu)).toInt = 0) :
    ∃ (r : ℕ) (v : EReal), (g j).toInt = (r : ℤ) ∧ IsFirst f 0 N r v := by
  have hp : asInt (ix (Shape.Idx.first hu), iy (Shape.Idx.first hu)) = ((⊥, 0) : EReal × ℤ) := Prod.ext hx hy
  obtain ⟨r, hr, hf⟩ := isFirst_of_foldl hN _ hl
  refine ⟨r, _, ?_, hf⟩
  subst hg
  show (Host.argReduce reducer_argmax_f32_i32 x y ix iy h hu j).2.toInt = (r : ℤ)
  rw [← asInt_snd, argReduce_foldl, hp, hr]

/-- The reference's row index is the first row of the column's maximum. -/
theorem colArg_row (j : Fin 1024) : ∃ (r : ℕ) (v : EReal), (colArg X (vecIx j)).toInt = (r : ℤ)
    ∧ IsFirst (column X j) 0 16384 r v :=
  argReduce_first (colArg X) _ _ _ _ _ _ rfl (vecIx j) (column X j) 16384 (by omega) (mem_fiber X j) neg_inf rfl

/-- The maximum is the reference's own. -/
theorem colArg_first (j : Fin 1024) : ∃ r : ℕ, (colArg X (vecIx j)).toInt = (r : ℤ)
    ∧ IsFirst (column X j) 0 16384 r (colMax X (vecIx j)) := by
  obtain ⟨r, v, hr, hf⟩ := colArg_row X j
  obtain ⟨hle, k, hk⟩ := colMax_spec X j
  have hv : v = colMax X (vecIx j) := by
    refine le_antisymm ?_ ?_
    · rw [← hf.val]
      exact (column_apply X j ⟨r, hf.lt_hi⟩).trans_le (hle _)
    · rw [← hk]
      exact (column_apply X j k).symm.trans_le (hf.le k.val (Nat.zero_le _) k.isLt)
  exact ⟨r, hr, hv ▸ hf⟩

/-- The top row of the reference's result. -/
theorem out_top (y : S2x1024.Idx) (hy : (y 0).val = 0) (j : Fin 1024) (hj : (y 1).val = j.val) :
    out X y = colMax X (vecIx j) := by
  unfold out stack
  refine (concatenate_pair_apply_left 0 _ _ concatenates_S1x1024_S1x1024_S2x1024_d0 y rfl (rowIx j) (fun b => ?_)).trans ?_
  · match b with
    | ⟨0, _⟩ => exact hy.symm
    | ⟨1, _⟩ => exact hj.symm
  · refine broadcastInDim_apply _ _ _ _ (vecIx j) fun a => ?_
    match a with
    | ⟨0, _⟩ => rfl

/-- The bottom row of the reference's result. -/
theorem out_bottom (y : S2x1024.Idx) (hy : (y 0).val = 1) (j : Fin 1024) (hj : (y 1).val = j.val) :
    out X y = (((colArg X (vecIx j)).toInt : ℝ) : EReal) := by
  unfold out stack
  refine (concatenate_pair_apply_right 0 _ _ concatenates_S1x1024_S1x1024_S2x1024_d0 y rfl rfl (rowIx j) (fun b hb => ?_) ?_).trans ?_
  · match b with
    | ⟨0, _⟩ => exact absurd rfl hb
    | ⟨1, _⟩ => exact hj.symm
  · exact hy.symm
  · refine (broadcastInDim_apply _ _ _ _ (vecIx j) fun a => ?_).trans rfl
    match a with
    | ⟨0, _⟩ => rfl

end Cert.ReferenceIdeal.HostRun

end
-- ==== Proof.Algebraic.lean ====
/-
# The kernel computes the reference's result

Over the extended reals, on blocks of rows of one array, every device's result is the reference's on the whole array.
-/
module

public import proofs.«01_k».proof.Defs
public import proofs.«01_k».proof.Proof.RefValue
public import proofs.«01_k».proof.Proof.Gen.Pre_no_tie_Kernel

@[expose] public section

set_option maxRecDepth 16384

noncomputable section

namespace Cert.Proof

open Idealize.ShloMosaic Idealize.SL.Sem
open Idealize.ShloMosaic.TcCoe
open Argmax
open Cert.KernelIdeal.Exchange

/-- Where the devices hold the blocks of `X`, the kernel's result is the reference's of `X`. -/
theorem outB_eq (m : (ℓ : Loc Cert.KernelIdeal.nD Cert.KernelIdeal.τ Cert.KernelIdeal.sig) → Buf (Elt Ideal) ℓ)
    (ρ : Dev Cert.KernelIdeal.nD → PrngReg) (X : (⟨2, ![16384, 1024]⟩ : Shape).Idx → EReal) (hX : Holds m X) :
    outB m ρ = Cert.ReferenceIdeal.HostRun.out (F := Ideal) X := by
  funext y
  have hj : (y 1).val < 1024 := (y 1).isLt
  have h0 : (y 0).val < 2 := (y 0).isLt
  obtain ⟨r, hr, hf⟩ := result_first ρ hX ⟨(y 1).val, hj⟩
  obtain ⟨r', hr', hf'⟩ := Cert.ReferenceIdeal.HostRun.colArg_first X ⟨(y 1).val, hj⟩
  obtain ⟨e1, e2⟩ := hf.unique hf'
  unfold outB
  by_cases hy : (y 0).val = 0
  · rw [if_pos hy, Cert.ReferenceIdeal.HostRun.out_top X y hy ⟨(y 1).val, hj⟩ rfl]
    exact e2
  · rw [if_neg hy, Cert.ReferenceIdeal.HostRun.out_bottom X y (by omega) ⟨(y 1).val, hj⟩ rfl, hr', ← e1]
    exact hr.trans (congrArg (fun z : ℝ => (z : EReal)) (Int.cast_natCast r).symm)

/-- The kernel's result on every device is the reference's, and both leave their arguments alone. -/
theorem algebraic : Cert.algebraic_KernelIdeal_ReferenceIdeal := by
  intro m g m' g' _ hm
  have hX : Holds m (m' (((0 : Dev Cert.ReferenceIdeal.nD).tc :
      Thread Cert.ReferenceIdeal.nD Cert.ReferenceIdeal.τ).loc Cert.ReferenceIdeal.main_arg0)) := fun c r j =>
    (congrFun (hm c) (blkIx r j)).trans (block_column _ c r j)
  refine ⟨_, (θ_run Cert.KernelIdeal.defs _ _).mono (fun _ h c => ⟨?_, ?_⟩) (run_main (F := Ideal) m g),
    (θ_run Cert.ReferenceIdeal.defs _ _).mono (fun _ h => ⟨(h.1 0).1, (h.1 0).2⟩)
      (Cert.ReferenceIdeal.HostRun.run_main (F := Ideal) m' g')⟩
  · exact ((h.1 c (1 : Fin 2)).trans (finalA_out m g c)).trans (outB_eq m g _ hX)
  · exact (h.1 c (0 : Fin 2)).trans (finalA_arg m g c)

end Cert.Proof

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_no_tie_Kernel
public import proofs.«01_k».proof.Proof.Gen.Pre_no_tie_ReferenceIdeal
public import Idealize.ShloMosaic.Adequacy
public import Idealize.ShloMosaic.Init
public import proofs.«01_k».proof.Proof.Frames
public import proofs.«01_k».proof.Proof.Algebraic

@[expose] public section

noncomputable section

namespace Cert.Proof

open Idealize.ShloMosaic Idealize.SL.Sem Cert.Kernel

/-- Every claim: the frames, the preserved kernel, and the value. -/
theorem claim : Cert.Claim := ⟨Cert.Kernel.Gen.facts, Cert.KernelIdeal.Gen.facts, Cert.ReferenceIdeal.Gen.facts, Cert.Pre_no_tie_Kernel.Gen.facts, Cert.Pre_no_tie_ReferenceIdeal.Gen.facts,
  frame_kernel, frame_kernel_pre, frame_kernelIdeal, frame_reference, frame_reference_pre, trivial, algebraic⟩

end Cert.Proof

end
